-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_values [hPre_bf16_values : Cert.Pre_bf16_values.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_values [hPre_bf16_values : Cert.Pre_bf16_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bf16_values [hKernelIdeal : Cert.KernelIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bf16_values [hReferenceIdeal : Cert.ReferenceIdeal.Facts] [hPre_bf16_values : Cert.Pre_bf16_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S256x128
  ∧ IdealRules.bf16_pair.Statement Cert.KernelIdeal.S256x2x128 Cert.KernelIdeal.S256x1x128

def algebraic_KernelIdeal_ReferenceIdeal_pre_bf16_values [hKernelIdeal : Cert.KernelIdeal.Facts] [hReferenceIdeal : Cert.ReferenceIdeal.Facts] [hPre_bf16_values : Cert.Pre_bf16_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bf16_values : Cert.Pre_bf16_values.Facts),
    quiescent_Kernel (hKernel := hKernel)
    ∧ quiescent_KernelIdeal (hKernelIdeal := hKernelIdeal)
    ∧ quiescent_KernelIdeal_pre_bf16_values (hKernelIdeal := hKernelIdeal) (hPre_bf16_values := hPre_bf16_values)
    ∧ quiescent_ReferenceIdeal (hReferenceIdeal := hReferenceIdeal)
    ∧ quiescent_ReferenceIdeal_pre_bf16_values (hReferenceIdeal := hReferenceIdeal) (hPre_bf16_values := hPre_bf16_values)
    ∧ preserves_Kernel_KernelIdeal
    ∧ algebraic_KernelIdeal_ReferenceIdeal_pre_bf16_values (hKernelIdeal := hKernelIdeal) (hReferenceIdeal := hReferenceIdeal) (hPre_bf16_values := hPre_bf16_values)
-- ==== Pre_bf16_values.lean ====
abbrev S1x4096x5120 : Shape := ⟨3, ![1, 4096, 5120]⟩
abbrev S5120x7680 : Shape := ⟨2, ![5120, 7680]⟩
abbrev S7680 : Shape := ⟨1, ![7680]⟩
abbrev S1x4096 : Shape := ⟨2, ![1, 4096]⟩
abbrev S_ : Shape := ⟨0, ![]⟩

class Facts : Prop where
  bcast_S_S1x4096x5120 : S_.BroadcastsInDim S1x4096x5120 (![] : Fin 0 → Fin S1x4096x5120.rank)
  reducesTo_S1x4096x5120_S_d0_1_2 : S1x4096x5120.ReducesTo [0, 1, 2] S_
  h_S_ : 0 < S_.numel

variable [Facts]

def fn {F : FTy → Type} [FloatOps F] (main_arg0 : FVec F S1x4096x5120 .bf16) (main_arg1 : FVec F S5120x7680 .fp8e4m3) (main_arg2 : FVec F S7680 .f32) (main_arg3 : FVec F S7680 .bf16) (main_arg4 : IVec S1x4096 32) : IVec S_ 1 :=
  let main_v0 : FVec F S1x4096x5120 .bf16 := Host.absf main_arg0
  let main_cst : FVec F S_ .bf16 := constant S_ .bf16 0x7F7F#16
  let main_v1 : FVec F S1x4096x5120 .bf16 := broadcastInDim S1x4096x5120 ![] bcast_S_S1x4096x5120 main_cst
  let main_v2 : IVec S1x4096x5120 1 := cmpf .ole main_v0 main_v1
  let main_cst_0 : FVec F S_ .bf16 := constant S_ .bf16 0x7F80#16
  let main_v3 : FVec F S1x4096x5120 .bf16 := broadcastInDim S1x4096x5120 ![] bcast_S_S1x4096x5120 main_cst_0
  let main_v4 : IVec S1x4096x5120 1 := cmpf .oeq main_v0 main_v3
  let main_v5 : IVec S1x4096x5120 1 := ori main_v2 main_v4
  let main_c : IVec S_ 1 := constantI S_ 1 1#1
  let main_v6 : IVec S_ 1 := (fun x v => Host.reduce IntOp.andi x v reducesTo_S1x4096x5120_S_d0_1_2 h_S_) main_v5 main_c
  main_v6
-- ==== Kernel.lean ====
abbrev S1x4096x5120 : Shape := ⟨3, ![1, 4096, 5120]⟩
abbrev S5120x7680 : Shape := ⟨2, ![5120, 7680]⟩
abbrev S7680 : Shape := ⟨1, ![7680]⟩
abbrev S1x4096 : Shape := ⟨2, ![1, 4096]⟩
abbrev S64 : Shape := ⟨1, ![64]⟩
abbrev S_ : Shape := ⟨0, ![]⟩
abbrev S128 : Shape := ⟨1, ![128]⟩
abbrev S1x128 : Shape := ⟨2, ![1, 128]⟩
abbrev S16x2x128 : Shape := ⟨3, ![16, 2, 128]⟩
abbrev S4096x5120 : Shape := ⟨2, ![4096, 5120]⟩
abbrev S1x7680 : Shape := ⟨2, ![1, 7680]⟩
abbrev S163840x128 : Shape := ⟨2, ![163840, 128]⟩
abbrev S10x4096x128 : Shape := ⟨3, ![10, 4096, 128]⟩
abbrev S1x2x128 : Shape := ⟨3, ![1, 2, 128]⟩
abbrev S256x5120 : Shape := ⟨2, ![256, 5120]⟩
abbrev S10240x128 : Shape := ⟨2, ![10240, 128]⟩
abbrev S10x256x128 : Shape := ⟨3, ![10, 256, 128]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x128 : Shape := ⟨2, ![128, 128]⟩
abbrev S1x1x128 : Shape := ⟨3, ![1, 1, 128]⟩
abbrev S5120x512 : Shape := ⟨2, ![5120, 512]⟩
abbrev S256x512 : Shape := ⟨2, ![256, 512]⟩
abbrev S1x512 : Shape := ⟨2, ![1, 512]⟩
abbrev S5120x128 : Shape := ⟨2, ![5120, 128]⟩
abbrev S5120x2x128 : Shape := ⟨3, ![5120, 2, 128]⟩
abbrev S256x2x128 : Shape := ⟨3, ![256, 2, 128]⟩
abbrev S256x1x128 : Shape := ⟨3, ![256, 1, 128]⟩
abbrev S1x256x128 : Shape := ⟨3, ![1, 256, 128]⟩
abbrev S1x4096x40x128 : Shape := ⟨4, ![1, 4096, 40, 128]⟩
abbrev S4096x10x128 : Shape := ⟨3, ![4096, 10, 128]⟩
abbrev S1x4096x10x128 : Shape := ⟨4, ![1, 4096, 10, 128]⟩
abbrev S1x4096x1 : Shape := ⟨3, ![1, 4096, 1]⟩

abbrev nBuf : Space → Nat
  | .hbm => 34
  | .vmem => 18
  | .smem => 0
  | _ => 0

abbrev bufTy : (tb : Table) → Fin (tcTables nBuf tb) → BufTy
  | .hbm, ⟨0, _⟩ => ⟨S1x4096x5120, .bf16⟩
  | .hbm, ⟨1, _⟩ => ⟨S5120x7680, .fp8e4m3⟩
  | .hbm, ⟨2, _⟩ => ⟨S7680, .f32⟩
  | .hbm, ⟨3, _⟩ => ⟨S7680, .bf16⟩
  | .hbm, ⟨4, _⟩ => ⟨S1x4096, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S16x2x128, .i32⟩
  | .hbm, ⟨19, _⟩ => ⟨S4096x5120, .bf16⟩
  | .hbm, ⟨20, _⟩ => ⟨S1x7680, .f32⟩
  | .hbm, ⟨21, _⟩ => ⟨S1x7680, .bf16⟩
  | .hbm, ⟨22, _⟩ => ⟨S163840x128, .bf16⟩
  | .hbm, ⟨23, _⟩ => ⟨S10x4096x128, .bf16⟩
  | .hbm, ⟨24, _⟩ => ⟨S10x4096x128, .bf16⟩
  | .hbm, ⟨25, _⟩ => ⟨S4096x5120, .fp8e4m3⟩
  | .hbm, ⟨26, _⟩ => ⟨S16x2x128, .f32⟩
  | .hbm, ⟨27, _⟩ => ⟨S1x4096x40x128, .bf16⟩
  | .hbm, ⟨28, _⟩ => ⟨S4096x10x128, .bf16⟩
  | .hbm, ⟨29, _⟩ => ⟨S1x4096x10x128, .bf16⟩
  | .hbm, ⟨30, _⟩ => ⟨S4096x10x128, .bf16⟩
  | .hbm, ⟨31, _⟩ => ⟨S1x4096x10x128, .bf16⟩
  | .hbm, ⟨32, _⟩ => ⟨S1x4096x5120, .fp8e4m3⟩
  | .hbm, ⟨33, _⟩ => ⟨S1x4096x1, .f32⟩
  | .local _ .vmem, ⟨0, _⟩ => ⟨S1x2x128, .i32⟩
  | .local _ .vmem, ⟨1, _⟩ => ⟨S1x2x128, .i32⟩
  | .local _ .vmem, ⟨2, _⟩ => ⟨S1x128, .f32⟩
  | .local _ .vmem, ⟨3, _⟩ => ⟨S256x5120, .bf16⟩
  | .local _ .vmem, ⟨4, _⟩ => ⟨S256x5120, .bf16⟩
  | .local _ .vmem, ⟨5, _⟩ => ⟨S5120x7680, .fp8e4m3⟩
  | .local _ .vmem, ⟨6, _⟩ => ⟨S1x7680, .f32⟩
  | .local _ .vmem, ⟨7, _⟩ => ⟨S1x7680, .bf16⟩
  | .local _ .vmem, ⟨8, _⟩ => ⟨S10240x128, .bf16⟩
  | .local _ .vmem, ⟨9, _⟩ => ⟨S10240x128, .bf16⟩
  | .local _ .vmem, ⟨10, _⟩ => ⟨S10x256x128, .bf16⟩
  | .local _ .vmem, ⟨11, _⟩ => ⟨S10x256x128, .bf16⟩
  | .local _ .vmem, ⟨12, _⟩ => ⟨S10x256x128, .bf16⟩
  | .local _ .vmem, ⟨13, _⟩ => ⟨S10x256x128, .bf16⟩
  | .local _ .vmem, ⟨14, _⟩ => ⟨S256x5120, .fp8e4m3⟩
  | .local _ .vmem, ⟨15, _⟩ => ⟨S256x5120, .fp8e4m3⟩
  | .local _ .vmem, ⟨16, _⟩ => ⟨S1x2x128, .f32⟩
  | .local _ .vmem, ⟨17, _⟩ => ⟨S1x2x128, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [BitOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5120x7680 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7680 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10240x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S10x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F]
-- ==== ReferenceIdeal.lean ====
abbrev S1x4096x5120 : Shape := ⟨3, ![1, 4096, 5120]⟩
abbrev S5120x7680 : Shape := ⟨2, ![5120, 7680]⟩
abbrev S7680 : Shape := ⟨1, ![7680]⟩
abbrev S1x4096 : Shape := ⟨2, ![1, 4096]⟩
abbrev S_ : Shape := ⟨0, ![]⟩
abbrev S1x4096x1 : Shape := ⟨3, ![1, 4096, 1]⟩
abbrev S4096x5120 : Shape := ⟨2, ![4096, 5120]⟩
abbrev S4096x1 : Shape := ⟨2, ![4096, 1]⟩
abbrev S4096x7680 : Shape := ⟨2, ![4096, 7680]⟩
abbrev S1x4096x7680 : Shape := ⟨3, ![1, 4096, 7680]⟩
abbrev S1x1x7680 : Shape := ⟨3, ![1, 1, 7680]⟩
abbrev S1x4096x40x128 : Shape := ⟨4, ![1, 4096, 40, 128]⟩
abbrev S1x4096x1280 : Shape := ⟨3, ![1, 4096, 1280]⟩
abbrev S1x4096x10x128 : Shape := ⟨4, ![1, 4096, 10, 128]⟩
abbrev S64 : Shape := ⟨1, ![64]⟩
abbrev S1x1x64 : Shape := ⟨3, ![1, 1, 64]⟩
abbrev S1x4096x64 : Shape := ⟨3, ![1, 4096, 64]⟩
abbrev S1x4096x1x64 : Shape := ⟨4, ![1, 4096, 1, 64]⟩
abbrev S1x4096x40x64 : Shape := ⟨4, ![1, 4096, 40, 64]⟩
abbrev S1x4096x10x64 : Shape := ⟨4, ![1, 4096, 10, 64]⟩

abbrev nBuf : Space → Nat
  | .hbm => 111
  | .vmem => 5
  | .smem => 0
  | _ => 0

abbrev bufTy : (tb : Table) → Fin (tcTables nBuf tb) → BufTy
  | .hbm, ⟨0, _⟩ => ⟨S1x4096x5120, .bf16⟩
  | .hbm, ⟨1, _⟩ => ⟨S5120x7680, .fp8e4m3⟩
  | .hbm, ⟨2, _⟩ => ⟨S7680, .f32⟩
  | .hbm, ⟨3, _⟩ => ⟨S7680, .bf16⟩
  | .hbm, ⟨4, _⟩ => ⟨S1x4096, .i32⟩
  | .hbm, ⟨5, _⟩ => ⟨S1x4096x5120, .f32⟩
  | .hbm, ⟨6, _⟩ => ⟨S1x4096x5120, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .i1⟩
  | .hbm, ⟨16, _⟩ => ⟨S_, .f32⟩
  | .hbm, ⟨17, _⟩ => ⟨S1x4096x1, .f32⟩
  | .hbm, ⟨18, _⟩ => ⟨S1x4096x1, .i1⟩
  | .hbm, ⟨19, _⟩ => ⟨S1x4096x1, .i1⟩
  | .hbm, ⟨20, _⟩ => ⟨S1x4096x1, .f32⟩
  | .hbm, ⟨21, _⟩ => ⟨S_, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S_, .f32⟩
  | .hbm, ⟨30, _⟩ => ⟨S_, .f32⟩
  | .hbm, ⟨31, _⟩ => ⟨S1x4096x1, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S4096x5120, .f32⟩
  | .hbm, ⟨37, _⟩ => ⟨S1x4096x1, .f32⟩
  | .hbm, ⟨38, _⟩ => ⟨S_, .f32⟩
  | .hbm, ⟨39, _⟩ => ⟨S1x4096x1, .f32⟩
  | .hbm, ⟨40, _⟩ => ⟨S1x4096x1, .f32⟩
  | .hbm, ⟨41, _⟩ => ⟨S4096x1, .f32⟩
  | .hbm, ⟨42, _⟩ => ⟨S4096x5120, .fp8e4m3⟩
  | .hbm, ⟨43, _⟩ => ⟨S4096x7680, .f32⟩
  | .hbm, ⟨44, _⟩ => ⟨S1x4096x5120, .fp8e4m3⟩
  | .hbm, ⟨45, _⟩ => ⟨S1x4096x7680, .f32⟩
  | .hbm, ⟨46, _⟩ => ⟨S1x4096x7680, .f32⟩
  | .hbm, ⟨47, _⟩ => ⟨S1x4096x7680, .f32⟩
  | .hbm, ⟨48, _⟩ => ⟨S1x1x7680, .f32⟩
  | .hbm, ⟨49, _⟩ => ⟨S1x4096x7680, .f32⟩
  | .hbm, ⟨50, _⟩ => ⟨S1x4096x7680, .f32⟩
  | .hbm, ⟨51, _⟩ => ⟨S7680, .f32⟩
  | .hbm, ⟨52, _⟩ => ⟨S1x1x7680, .f32⟩
  | .hbm, ⟨53, _⟩ => ⟨S1x4096x7680, .f32⟩
  | .hbm, ⟨54, _⟩ => ⟨S1x4096x7680, .f32⟩
  | .hbm, ⟨55, _⟩ => ⟨S1x4096x5120, .f32⟩
  | .hbm, ⟨56, _⟩ => ⟨S1x4096x40x128, .f32⟩
  | .hbm, ⟨57, _⟩ => ⟨S1x4096x1280, .f32⟩
  | .hbm, ⟨58, _⟩ => ⟨S1x4096x10x128, .f32⟩
  | .hbm, ⟨59, _⟩ => ⟨S1x4096x1280, .f32⟩
  | .hbm, ⟨60, _⟩ => ⟨S1x4096x10x128, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x4096, .f32⟩
  | .hbm, ⟨73, _⟩ => ⟨S1x4096x1, .f32⟩
  | .hbm, ⟨74, _⟩ => ⟨S1x1x64, .f32⟩
  | .hbm, ⟨75, _⟩ => ⟨S1x4096x64, .f32⟩
  | .hbm, ⟨76, _⟩ => ⟨S1x4096x64, .f32⟩
  | .hbm, ⟨77, _⟩ => ⟨S1x4096x64, .f32⟩
  | .hbm, ⟨78, _⟩ => ⟨S1x4096x64, .f32⟩
  | .hbm, ⟨79, _⟩ => ⟨S1x4096x1x64, .f32⟩
  | .hbm, ⟨80, _⟩ => ⟨S1x4096x64, .f32⟩
  | .hbm, ⟨81, _⟩ => ⟨S1x4096x1x64, .f32⟩
  | .hbm, ⟨82, _⟩ => ⟨S1x4096x40x64, .f32⟩
  | .hbm, ⟨83, _⟩ => ⟨S1x4096x40x64, .f32⟩
  | .hbm, ⟨84, _⟩ => ⟨S1x4096x40x64, .f32⟩
  | .hbm, ⟨85, _⟩ => ⟨S1x4096x40x64, .f32⟩
  | .hbm, ⟨86, _⟩ => ⟨S1x4096x40x64, .f32⟩
  | .hbm, ⟨87, _⟩ => ⟨S1x4096x40x64, .f32⟩
  | .hbm, ⟨88, _⟩ => ⟨S1x4096x40x64, .f32⟩
  | .hbm, ⟨89, _⟩ => ⟨S1x4096x40x64, .f32⟩
  | .hbm, ⟨90, _⟩ => ⟨S1x4096x40x64, .f32⟩
  | .hbm, ⟨91, _⟩ => ⟨S1x4096x40x64, .f32⟩
  | .hbm, ⟨92, _⟩ => ⟨S1x4096x40x64, .f32⟩
  | .hbm, ⟨93, _⟩ => ⟨S1x4096x40x64, .f32⟩
  | .hbm, ⟨94, _⟩ => ⟨S1x4096x40x128, .f32⟩
  | .hbm, ⟨95, _⟩ => ⟨S1x4096x40x128, .bf16⟩
  | .hbm, ⟨96, _⟩ => ⟨S1x4096x10x64, .f32⟩
  | .hbm, ⟨97, _⟩ => ⟨S1x4096x10x64, .f32⟩
  | .hbm, ⟨98, _⟩ => ⟨S1x4096x10x64, .f32⟩
  | .hbm, ⟨99, _⟩ => ⟨S1x4096x10x64, .f32⟩
  | .hbm, ⟨100, _⟩ => ⟨S1x4096x10x64, .f32⟩
  | .hbm, ⟨101, _⟩ => ⟨S1x4096x10x64, .f32⟩
  | .hbm, ⟨102, _⟩ => ⟨S1x4096x10x64, .f32⟩
  | .hbm, ⟨103, _⟩ => ⟨S1x4096x10x64, .f32⟩
  | .hbm, ⟨104, _⟩ => ⟨S1x4096x10x64, .f32⟩
  | .hbm, ⟨105, _⟩ => ⟨S1x4096x10x64, .f32⟩
  | .hbm, ⟨106, _⟩ => ⟨S1x4096x10x64, .f32⟩
  | .hbm, ⟨107, _⟩ => ⟨S1x4096x10x64, .f32⟩
  | .hbm, ⟨108, _⟩ => ⟨S1x4096x10x128, .f32⟩
  | .hbm, ⟨109, _⟩ => ⟨S1x4096x10x128, .bf16⟩
  | .hbm, ⟨110, _⟩ => ⟨S1x4096x10x128, .bf16⟩
  | .local _ .vmem, ⟨0, _⟩ => ⟨S4096x5120, .f32⟩
  | .local _ .vmem, ⟨1, _⟩ => ⟨S4096x1, .f32⟩
  | .local _ .vmem, ⟨2, _⟩ => ⟨S5120x7680, .fp8e4m3⟩
  | .local _ .vmem, ⟨3, _⟩ => ⟨S4096x5120, .fp8e4m3⟩
  | .local _ .vmem, ⟨4, _⟩ => ⟨S4096x7680, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x7680 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelPoint.lean ====
/- One grid point of the kernel, run whole: on staging buffers that hold the point's input blocks, the body ends with
   the inputs as they were and with each output's buffer written by a list of stores.  The lists are found by the run. -/
module

public import proofs.«01_k».proof.Proof.Gen.Kernel.Frame
public import proofs.«01_k».proof.Proof.Gen.Kernel.Skeleton

@[expose] public section

-- membership in a rectangle of production extents (`View.cover_of_tiled`): the elaborator's structural look
-- recurses once per coordinate of the long axes
set_option maxRecDepth 16384

noncomputable section

namespace Cert.Kernel.Point

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The rows of the block for the query heads in pairs, as the body stores them. -/
abbrev pairs (M : Memref sig .tc .vmem S10240x128 .bf16) (h : M.IsWhole) : Memref sig .tc .vmem S5120x2x128 .bf16 :=
  M.reshape S5120x2x128 reshapes_S10240x128_S5120x2x128.1 reshapes_S10240x128_S5120x2x128.2 h.contiguous

/-- A buffer held whole is held whole through its rows in pairs. -/
theorem to_pairs (c : Dev nD) (M : Memref sig .tc .vmem S10240x128 .bf16) (h : M.IsWhole) (f : Buf (Elt F) (M.view.loc (c : Thread nD τ))) :
    (M.view.loc (c : Thread nD τ) ↦[M.view.set]{fullShare} f : sProp 𝕄) ⊢ ((pairs M h).view.loc (c : Thread nD τ) ↦[(pairs M h).view.set]{fullShare} f) := by
  rw [show (pairs M h).view.set = M.view.set from View.set_reshape ..]

/-- And back. -/
theorem from_pairs (c : Dev nD) (M : Memref sig .tc .vmem S10240x128 .bf16) (h : M.IsWhole) (f : Buf (Elt F) (M.view.loc (c : Thread nD τ))) :
    ((pairs M h).view.loc (c : Thread nD τ) ↦[(pairs M h).view.set]{fullShare} f : sProp 𝕄) ⊢ (M.view.loc (c : Thread nD τ) ↦[M.view.set]{fullShare} f) := by
  rw [show (pairs M h).view.set = M.view.set from View.set_reshape ..]

-- (the run's proof term is large: the definition's epilogue — `abstractNestedProofs` — walks it past the default budget)
set_option maxHeartbeats 1136000 in
/-- What the body's stores leave in each output's buffer, as lists of stores (the last one first), with the proof that
    the body runs to a continuation that holds the inputs as they were and each output with its stores made. -/
noncomputable def run (c : Dev nD) (i : grid0.Coords) (arg1 : Memref sig .tc .vmem S1x2x128 .i32) (harg1 : arg1.IsWhole) (arg2 : Memref sig .tc .vmem S1x128 .f32) (harg2 : arg2.IsWhole) (arg3 : Memref sig .tc .vmem S256x5120 .bf16) (harg3 : arg3.IsWhole) (arg4 : Memref sig .tc .vmem S5120x7680 .fp8e4m3) (harg4 : arg4.IsWhole) (arg5 : Memref sig .tc .vmem S1x7680 .f32) (harg5 : arg5.IsWhole) (arg6 : Memref sig .tc .vmem S1x7680 .bf16) (harg6 : arg6.IsWhole) (arg7 : Memref sig .tc .vmem S10240x128 .bf16) (harg7 : arg7.IsWhole) (arg8 : Memref sig .tc .vmem S10x256x128 .bf16) (harg8 : arg8.IsWhole) (arg9 : Memref sig .tc .vmem S10x256x128 .bf16) (harg9 : arg9.IsWhole) (arg10 : Memref sig .tc .vmem S256x5120 .fp8e4m3) (harg10 : arg10.IsWhole) (arg11 : Memref sig .tc .vmem S1x2x128 .f32) (harg11 : arg11.IsWhole)
    (x0 : Vec F S1x2x128 .i32) (x1 : Vec F S1x128 .f32) (x2 : Vec F S256x5120 .bf16) (x3 : Vec F S5120x7680 .fp8e4m3) (x4 : Vec F S1x7680 .f32) (x5 : Vec F S1x7680 .bf16) :
    Σ' (L6 : List (View.Piece (Elt F) S5120x2x128 .bf16)), Σ' (L7 : List (View.Piece (Elt F) S10x256x128 .bf16)), Σ' (L8 : List (View.Piece (Elt F) S10x256x128 .bf16)), Σ' (L9 : List (View.Piece (Elt F) S256x5120 .fp8e4m3)), { L10 : List (View.Piece (Elt F) S1x2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, (pairs arg7 harg7).view.loc (c : Thread nD τ) ↦[(pairs arg7 harg7).view.set]{fullShare} (pairs arg7 harg7).view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_qkv_fp8_rope i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_qkv_fp8_rope_eq_skeleton]; unfold cc0_qkv_fp8_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    ihave H6 := (to_pairs c arg7 harg7 f6) $$ H6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Point

end
-- ==== Proof.KernelRun.lean ====
/- The whole run of the program from the run of one grid point: what every array holds at the end, and that the arguments
   are unchanged and every counter ends at zero. -/
module

public import proofs.«01_k».proof.Proof.Gen.Kernel.Frame
public import proofs.«01_k».proof.Proof.KernelPoint
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel.Point

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x2x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x7680 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7680 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7680 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10240x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S10x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5120 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)

/-! ## What one grid point leaves in each output's block -/

/-- The stores of one grid point, and the proof that the body makes them. -/
abbrev runAt (c : Dev nD) (t : Fin cfg0.N) :=
  run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t)

/-- The stores into output 1's block, the last one first. -/
abbrev stores6 (c : Dev nD) (t : Fin cfg0.N) : List (View.Piece (Elt F) S5120x2x128 .bf16) := (runAt m c t).1
/-- The stores into output 2's block, the last one first. -/
abbrev stores7 (c : Dev nD) (t : Fin cfg0.N) : List (View.Piece (Elt F) S10x256x128 .bf16) := (runAt m c t).2.1
/-- The stores into output 3's block, the last one first. -/
abbrev stores8 (c : Dev nD) (t : Fin cfg0.N) : List (View.Piece (Elt F) S10x256x128 .bf16) := (runAt m c t).2.2.1
/-- The stores into output 4's block, the last one first. -/
abbrev stores9 (c : Dev nD) (t : Fin cfg0.N) : List (View.Piece (Elt F) S256x5120 .fp8e4m3) := (runAt m c t).2.2.2.1
/-- The stores into output 5's block, the last one first. -/
abbrev stores10 (c : Dev nD) (t : Fin cfg0.N) : List (View.Piece (Elt F) S1x2x128 .f32) := (runAt m c t).2.2.2.2.1

/-- The rectangle of a store into the block for the query heads: one pair of heads, all rows of the block. -/
abbrev headPair (p : Rect S5120x2x128) (h : ℕ) : Prop :=
  (p.off 0 = h ∧ p.off 1 = 0 ∧ p.off 2 = 0) ∧ (p.size 0 = 256 ∧ p.size 1 = 2 ∧ p.size 2 = 128) ∧ (p.stride 0 = 20 ∧ p.stride 1 = 1 ∧ p.stride 2 = 1)

/-- A row whose pair of heads is `h` lies in the rectangle of that pair. -/
theorem mem_headPair (p : Rect S5120x2x128) (y : S5120x2x128.Idx) (h : headPair p ((y 0).val % 20)) : y ∈ p.set := by
  obtain ⟨⟨o0, o1, o2⟩, ⟨s0, s1, s2⟩, t0, t1, t2⟩ := h
  have y0 : (y 0).val < 5120 := (y 0).isLt
  have y1 : (y 1).val < 2 := (y 1).isLt
  have y2 : (y 2).val < 128 := (y 2).isLt
  refine p.mem_set.mpr fun a => ?_
  fin_cases a
  · refine ⟨(y 0).val / 20, ?_, ?_⟩
    · show _ < p.size 0; rw [s0]; omega
    · show (y 0).val = p.off 0 + p.stride 0 * _; rw [o0, t0]; omega
  · refine ⟨(y 1).val, ?_, ?_⟩
    · show _ < p.size 1; rw [s1]; omega
    · show (y 1).val = p.off 1 + p.stride 1 * _; rw [o1, t1]; omega
  · refine ⟨(y 2).val, ?_, ?_⟩
    · show _ < p.size 2; rw [s2]; omega
    · show (y 2).val = p.off 2 + p.stride 2 * _; rw [o2, t2]; omega

theorem offs6 (c : Dev nD) (t : Fin cfg0.N) :
    (stores6 (F := F) m c t).map (fun p => (p.1.off 0, p.1.off 1, p.1.off 2, p.1.size 0, p.1.size 1, p.1.size 2, p.1.stride 0, p.1.stride 1, p.1.stride 2))
      = ((List.range 20).reverse).map (fun h => (h, 0, 0, 256, 2, 128, 20, 1, 1)) := by sl_kernel_rfl

theorem cover6 (c : Dev nD) (t : Fin cfg0.N) (y : S5120x2x128.Idx) : ∃ p ∈ stores6 (F := F) m c t, y ∈ p.1.set := by
  have hm : ((y 0).val % 20, 0, 0, 256, 2, 128, 20, 1, 1) ∈ (stores6 (F := F) m c t).map
      (fun p => (p.1.off 0, p.1.off 1, p.1.off 2, p.1.size 0, p.1.size 1, p.1.size 2, p.1.stride 0, p.1.stride 1, p.1.stride 2)) := by
    rw [offs6]; exact List.mem_map.mpr ⟨_, List.mem_reverse.mpr (List.mem_range.mpr (Nat.mod_lt _ (by decide))), rfl⟩
  obtain ⟨p, hp, e⟩ := List.mem_map.mp hm
  simp only [Prod.mk.injEq] at e
  obtain ⟨e1, e2, e3, e4, e5, e6, e7, e8, e9⟩ := e
  exact ⟨p, hp, mem_headPair p.1 y ⟨⟨e1, e2, e3⟩, ⟨e4, e5, e6⟩, e7, e8, e9⟩⟩

theorem cover7 (c : Dev nD) (t : Fin cfg0.N) (y) : ∃ p ∈ stores7 (F := F) m c t, y ∈ p.1.set :=
  View.cover_of_tiledL (stores7 (F := F) m c t) S1x256x128.size (by sl_kernel_rfl) y
theorem cover8 (c : Dev nD) (t : Fin cfg0.N) (y) : ∃ p ∈ stores8 (F := F) m c t, y ∈ p.1.set :=
  View.cover_of_tiledL (stores8 (F := F) m c t) S1x256x128.size (by sl_kernel_rfl) y
theorem cover9 (c : Dev nD) (t : Fin cfg0.N) (y) : ∃ p ∈ stores9 (F := F) m c t, y ∈ p.1.set :=
  View.cover_of_tiledL (stores9 (F := F) m c t) S256x5120.size (by sl_kernel_rfl) y
theorem cover10 (c : Dev nD) (t : Fin cfg0.N) (y) : ∃ p ∈ stores10 (F := F) m c t, y ∈ p.1.set :=
  View.cover_of_tiledL (stores10 (F := F) m c t) S1x1x128.size (by sl_kernel_rfl) y

/-- The block for the query heads, row by row: its rows in pairs as the stores leave them. -/
def out6 (c : Dev nD) (t : Fin cfg0.N) : Vec F S10240x128 .bf16 :=
  fun y => View.canon (stores6 m c t) ((Shape.reshapeEquiv reshapes_S10240x128_S5120x2x128.1).symm y)

theorem read_pairs (c : Dev nD) (t : Fin cfg0.N) (M : Memref sig .tc .vmem S10240x128 .bf16) (h : M.IsWhole) (f : Buf (Elt F) (M.view.loc (c : Thread nD τ))) :
    M.view.read (Elt F) ((pairs M h).view.writes (Elt F) f (stores6 m c t)) = out6 m c t := by
  funext y
  unfold out6
  rw [← View.read_writes_eq_canon (pairs M h).view f _ (cover6 m c t)]
  show M.view.read (Elt F) _ y = M.view.read (Elt F) _ (Shape.reshapeEquiv _ ((Shape.reshapeEquiv _).symm y))
  rw [Equiv.apply_symm_apply]

/-! ## The pipeline's proof data -/

/-- The proof data of the one pipeline on core `c`: the arrays as the region finds them (`V`); after the body at
    point `t` each input's buffer at its block and the outputs' at what the point's stores leave; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => View.canon (stores7 m c t)
    | ⟨8, _⟩ => View.canon (stores8 m c t)
    | ⟨9, _⟩ => View.canon (stores9 m c t)
    | ⟨10, _⟩ => View.canon (stores10 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = View.canon (stores7 m c t) := by dsimp only [dats]
theorem after0_8 (c : Dev nD) (t : Fin cfg0.N) : (dats m 0 c).after 8 t = View.canon (stores8 m c t) := by dsimp only [dats]
theorem after0_9 (c : Dev nD) (t : Fin cfg0.N) : (dats m 0 c).after 9 t = View.canon (stores9 m c t) := by dsimp only [dats]
theorem after0_10 (c : Dev nD) (t : Fin cfg0.N) : (dats m 0 c).after 10 t = View.canon (stores10 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, ⟨%e6, H6⟩, ⟨%e7, H7⟩, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  ihave H6 := (from_pairs c _ _ _) $$ H6
  isplitl [H6]
  · unfold owns; iexists _; isplitr
    swap; · iexact H6
    ipureintro; exact read_pairs m c t _ _ _
  isplitl [H7]
  · unfold owns; iexists _; isplitr
    swap; · iexact H7
    ipureintro; exact View.read_writes_eq_canon _ _ _ (cover7 m c t)
  isplitl [H8]
  · unfold owns; iexists _; isplitr
    swap; · iexact H8
    ipureintro; exact View.read_writes_eq_canon _ _ _ (cover8 m c t)
  isplitl [H9]
  · unfold owns; iexists _; isplitr
    swap; · iexact H9
    ipureintro; exact View.read_writes_eq_canon _ _ _ (cover9 m c t)
  unfold owns; iexists _; isplitr
  swap; · iexact H10
  ipureintro; exact View.read_writes_eq_canon _ _ _ (cover10 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: from any memory with zero counters, every run ends with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Point

end
-- ==== Proof.KernelIdealPoint.lean ====
/- One grid point of the kernel, run whole: on staging buffers that hold the point's input blocks, the body ends with
   the inputs as they were and with each output's buffer written by a list of stores.  The lists are found by the run. -/
module

public import proofs.«01_k».proof.Proof.Gen.KernelIdeal.Frame
public import proofs.«01_k».proof.Proof.Gen.KernelIdeal.Skeleton

@[expose] public section

-- membership in a rectangle of production extents (`View.cover_of_tiled`): the elaborator's structural look
-- recurses once per coordinate of the long axes
set_option maxRecDepth 16384

noncomputable section

namespace Cert.KernelIdeal.Point

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows of the block for the query heads in pairs, as the body stores them. -/
abbrev pairs (M : Memref sig .tc .vmem S10240x128 .bf16) (h : M.IsWhole) : Memref sig .tc .vmem S5120x2x128 .bf16 :=
  M.reshape S5120x2x128 reshapes_S10240x128_S5120x2x128.1 reshapes_S10240x128_S5120x2x128.2 h.contiguous

/-- A buffer held whole is held whole through its rows in pairs. -/
theorem to_pairs (c : Dev nD) (M : Memref sig .tc .vmem S10240x128 .bf16) (h : M.IsWhole) (f : Buf (Elt F) (M.view.loc (c : Thread nD τ))) :
    (M.view.loc (c : Thread nD τ) ↦[M.view.set]{fullShare} f : sProp 𝕄) ⊢ ((pairs M h).view.loc (c : Thread nD τ) ↦[(pairs M h).view.set]{fullShare} f) := by
  rw [show (pairs M h).view.set = M.view.set from View.set_reshape ..]

/-- And back. -/
theorem from_pairs (c : Dev nD) (M : Memref sig .tc .vmem S10240x128 .bf16) (h : M.IsWhole) (f : Buf (Elt F) (M.view.loc (c : Thread nD τ))) :
    ((pairs M h).view.loc (c : Thread nD τ) ↦[(pairs M h).view.set]{fullShare} f : sProp 𝕄) ⊢ (M.view.loc (c : Thread nD τ) ↦[M.view.set]{fullShare} f) := by
  rw [show (pairs M h).view.set = M.view.set from View.set_reshape ..]

-- (the run's proof term is large: the definition's epilogue — `abstractNestedProofs` — walks it past the default budget)
set_option maxHeartbeats 1136000 in
/-- What the body's stores leave in each output's buffer, as lists of stores (the last one first), with the proof that
    the body runs to a continuation that holds the inputs as they were and each output with its stores made. -/
noncomputable def run (c : Dev nD) (i : grid0.Coords) (arg1 : Memref sig .tc .vmem S1x2x128 .i32) (harg1 : arg1.IsWhole) (arg2 : Memref sig .tc .vmem S1x128 .f32) (harg2 : arg2.IsWhole) (arg3 : Memref sig .tc .vmem S256x5120 .bf16) (harg3 : arg3.IsWhole) (arg4 : Memref sig .tc .vmem S5120x7680 .fp8e4m3) (harg4 : arg4.IsWhole) (arg5 : Memref sig .tc .vmem S1x7680 .f32) (harg5 : arg5.IsWhole) (arg6 : Memref sig .tc .vmem S1x7680 .bf16) (harg6 : arg6.IsWhole) (arg7 : Memref sig .tc .vmem S10240x128 .bf16) (harg7 : arg7.IsWhole) (arg8 : Memref sig .tc .vmem S10x256x128 .bf16) (harg8 : arg8.IsWhole) (arg9 : Memref sig .tc .vmem S10x256x128 .bf16) (harg9 : arg9.IsWhole) (arg10 : Memref sig .tc .vmem S256x5120 .fp8e4m3) (harg10 : arg10.IsWhole) (arg11 : Memref sig .tc .vmem S1x2x128 .f32) (harg11 : arg11.IsWhole)
    (x0 : Vec F S1x2x128 .i32) (x1 : Vec F S1x128 .f32) (x2 : Vec F S256x5120 .bf16) (x3 : Vec F S5120x7680 .fp8e4m3) (x4 : Vec F S1x7680 .f32) (x5 : Vec F S1x7680 .bf16) :
    Σ' (L6 : List (View.Piece (Elt F) S5120x2x128 .bf16)), Σ' (L7 : List (View.Piece (Elt F) S10x256x128 .bf16)), Σ' (L8 : List (View.Piece (Elt F) S10x256x128 .bf16)), Σ' (L9 : List (View.Piece (Elt F) S256x5120 .fp8e4m3)), { L10 : List (View.Piece (Elt F) S1x2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, (pairs arg7 harg7).view.loc (c : Thread nD τ) ↦[(pairs arg7 harg7).view.set]{fullShare} (pairs arg7 harg7).view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_qkv_fp8_rope i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_qkv_fp8_rope_eq_skeleton]; unfold cc0_qkv_fp8_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    ihave H6 := (to_pairs c arg7 harg7 f6) $$ H6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Point

end
-- ==== Proof.KernelIdealRun.lean ====
/- The whole run of the program from the run of one grid point: what every array holds at the end, and that the arguments
   are unchanged and every counter ends at zero. -/
module

public import proofs.«01_k».proof.Proof.Gen.KernelIdeal.Frame
public import proofs.«01_k».proof.Proof.KernelIdealPoint
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.KernelIdeal.Point

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x2x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x7680 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x7680 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7680 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S10240x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S10x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5120 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x128 .f32 := win0_10.stage (cfg0.slots t 10)
abbrev hs0_10 (t : Fin cfg0.N) : (ms0_10 t).IsWhole := hstage0_10 ((cfg0.slots t 10).cast nbuf0_10)

/-! ## What one grid point leaves in each output's block -/

/-- The stores of one grid point, and the proof that the body makes them. -/
abbrev runAt (c : Dev nD) (t : Fin cfg0.N) :=
  run (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t)

/-- The stores into output 1's block, the last one first. -/
abbrev stores6 (c : Dev nD) (t : Fin cfg0.N) : List (View.Piece (Elt F) S5120x2x128 .bf16) := (runAt m c t).1
/-- The stores into output 2's block, the last one first. -/
abbrev stores7 (c : Dev nD) (t : Fin cfg0.N) : List (View.Piece (Elt F) S10x256x128 .bf16) := (runAt m c t).2.1
/-- The stores into output 3's block, the last one first. -/
abbrev stores8 (c : Dev nD) (t : Fin cfg0.N) : List (View.Piece (Elt F) S10x256x128 .bf16) := (runAt m c t).2.2.1
/-- The stores into output 4's block, the last one first. -/
abbrev stores9 (c : Dev nD) (t : Fin cfg0.N) : List (View.Piece (Elt F) S256x5120 .fp8e4m3) := (runAt m c t).2.2.2.1
/-- The stores into output 5's block, the last one first. -/
abbrev stores10 (c : Dev nD) (t : Fin cfg0.N) : List (View.Piece (Elt F) S1x2x128 .f32) := (runAt m c t).2.2.2.2.1

/-- The rectangle of a store into the block for the query heads: one pair of heads, all rows of the block. -/
abbrev headPair (p : Rect S5120x2x128) (h : ℕ) : Prop :=
  (p.off 0 = h ∧ p.off 1 = 0 ∧ p.off 2 = 0) ∧ (p.size 0 = 256 ∧ p.size 1 = 2 ∧ p.size 2 = 128) ∧ (p.stride 0 = 20 ∧ p.stride 1 = 1 ∧ p.stride 2 = 1)

/-- A row whose pair of heads is `h` lies in the rectangle of that pair. -/
theorem mem_headPair (p : Rect S5120x2x128) (y : S5120x2x128.Idx) (h : headPair p ((y 0).val % 20)) : y ∈ p.set := by
  obtain ⟨⟨o0, o1, o2⟩, ⟨s0, s1, s2⟩, t0, t1, t2⟩ := h
  have y0 : (y 0).val < 5120 := (y 0).isLt
  have y1 : (y 1).val < 2 := (y 1).isLt
  have y2 : (y 2).val < 128 := (y 2).isLt
  refine p.mem_set.mpr fun a => ?_
  fin_cases a
  · refine ⟨(y 0).val / 20, ?_, ?_⟩
    · show _ < p.size 0; rw [s0]; omega
    · show (y 0).val = p.off 0 + p.stride 0 * _; rw [o0, t0]; omega
  · refine ⟨(y 1).val, ?_, ?_⟩
    · show _ < p.size 1; rw [s1]; omega
    · show (y 1).val = p.off 1 + p.stride 1 * _; rw [o1, t1]; omega
  · refine ⟨(y 2).val, ?_, ?_⟩
    · show _ < p.size 2; rw [s2]; omega
    · show (y 2).val = p.off 2 + p.stride 2 * _; rw [o2, t2]; omega

theorem offs6 (c : Dev nD) (t : Fin cfg0.N) :
    (stores6 (F := F) m c t).map (fun p => (p.1.off 0, p.1.off 1, p.1.off 2, p.1.size 0, p.1.size 1, p.1.size 2, p.1.stride 0, p.1.stride 1, p.1.stride 2))
      = ((List.range 20).reverse).map (fun h => (h, 0, 0, 256, 2, 128, 20, 1, 1)) := by sl_kernel_rfl

theorem cover6 (c : Dev nD) (t : Fin cfg0.N) (y : S5120x2x128.Idx) : ∃ p ∈ stores6 (F := F) m c t, y ∈ p.1.set := by
  have hm : ((y 0).val % 20, 0, 0, 256, 2, 128, 20, 1, 1) ∈ (stores6 (F := F) m c t).map
      (fun p => (p.1.off 0, p.1.off 1, p.1.off 2, p.1.size 0, p.1.size 1, p.1.size 2, p.1.stride 0, p.1.stride 1, p.1.stride 2)) := by
    rw [offs6]; exact List.mem_map.mpr ⟨_, List.mem_reverse.mpr (List.mem_range.mpr (Nat.mod_lt _ (by decide))), rfl⟩
  obtain ⟨p, hp, e⟩ := List.mem_map.mp hm
  simp only [Prod.mk.injEq] at e
  obtain ⟨e1, e2, e3, e4, e5, e6, e7, e8, e9⟩ := e
  exact ⟨p, hp, mem_headPair p.1 y ⟨⟨e1, e2, e3⟩, ⟨e4, e5, e6⟩, e7, e8, e9⟩⟩

theorem cover7 (c : Dev nD) (t : Fin cfg0.N) (y) : ∃ p ∈ stores7 (F := F) m c t, y ∈ p.1.set :=
  View.cover_of_tiledL (stores7 (F := F) m c t) S1x256x128.size (by sl_kernel_rfl) y
theorem cover8 (c : Dev nD) (t : Fin cfg0.N) (y) : ∃ p ∈ stores8 (F := F) m c t, y ∈ p.1.set :=
  View.cover_of_tiledL (stores8 (F := F) m c t) S1x256x128.size (by sl_kernel_rfl) y
theorem cover9 (c : Dev nD) (t : Fin cfg0.N) (y) : ∃ p ∈ stores9 (F := F) m c t, y ∈ p.1.set :=
  View.cover_of_tiledL (stores9 (F := F) m c t) S256x5120.size (by sl_kernel_rfl) y
theorem cover10 (c : Dev nD) (t : Fin cfg0.N) (y) : ∃ p ∈ stores10 (F := F) m c t, y ∈ p.1.set :=
  View.cover_of_tiledL (stores10 (F := F) m c t) S1x1x128.size (by sl_kernel_rfl) y

/-- The block for the query heads, row by row: its rows in pairs as the stores leave them. -/
def out6 (c : Dev nD) (t : Fin cfg0.N) : Vec F S10240x128 .bf16 :=
  fun y => View.canon (stores6 m c t) ((Shape.reshapeEquiv reshapes_S10240x128_S5120x2x128.1).symm y)

theorem read_pairs (c : Dev nD) (t : Fin cfg0.N) (M : Memref sig .tc .vmem S10240x128 .bf16) (h : M.IsWhole) (f : Buf (Elt F) (M.view.loc (c : Thread nD τ))) :
    M.view.read (Elt F) ((pairs M h).view.writes (Elt F) f (stores6 m c t)) = out6 m c t := by
  funext y
  unfold out6
  rw [← View.read_writes_eq_canon (pairs M h).view f _ (cover6 m c t)]
  show M.view.read (Elt F) _ y = M.view.read (Elt F) _ (Shape.reshapeEquiv _ ((Shape.reshapeEquiv _).symm y))
  rw [Equiv.apply_symm_apply]

/-! ## The pipeline's proof data -/

/-- The proof data of the one pipeline on core `c`: the arrays as the region finds them (`V`); after the body at
    point `t` each input's buffer at its block and the outputs' at what the point's stores leave; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => View.canon (stores7 m c t)
    | ⟨8, _⟩ => View.canon (stores8 m c t)
    | ⟨9, _⟩ => View.canon (stores9 m c t)
    | ⟨10, _⟩ => View.canon (stores10 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = View.canon (stores7 m c t) := by dsimp only [dats]
theorem after0_8 (c : Dev nD) (t : Fin cfg0.N) : (dats m 0 c).after 8 t = View.canon (stores8 m c t) := by dsimp only [dats]
theorem after0_9 (c : Dev nD) (t : Fin cfg0.N) : (dats m 0 c).after 9 t = View.canon (stores9 m c t) := by dsimp only [dats]
theorem after0_10 (c : Dev nD) (t : Fin cfg0.N) : (dats m 0 c).after 10 t = View.canon (stores10 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runAt m c t).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, ⟨%e6, H6⟩, ⟨%e7, H7⟩, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  ihave H6 := (from_pairs c _ _ _) $$ H6
  isplitl [H6]
  · unfold owns; iexists _; isplitr
    swap; · iexact H6
    ipureintro; exact read_pairs m c t _ _ _
  isplitl [H7]
  · unfold owns; iexists _; isplitr
    swap; · iexact H7
    ipureintro; exact View.read_writes_eq_canon _ _ _ (cover7 m c t)
  isplitl [H8]
  · unfold owns; iexists _; isplitr
    swap; · iexact H8
    ipureintro; exact View.read_writes_eq_canon _ _ _ (cover8 m c t)
  isplitl [H9]
  · unfold owns; iexists _; isplitr
    swap; · iexact H9
    ipureintro; exact View.read_writes_eq_canon _ _ _ (cover9 m c t)
  unfold owns; iexists _; isplitr
  swap; · iexact H10
  ipureintro; exact View.read_writes_eq_canon _ _ _ (cover10 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: from any memory with zero counters, every run ends with the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Point

end
-- ==== Proof.Exponent.lean ====
/- The scale of a token two ways, over the extended reals.

   The kernel finds the exponent of `m` by comparing `m` with all the powers of two that f32 has, and builds the scale and its
   inverse from bit patterns.  The reference takes a logarithm, rounds it down, and raises two to it.  Both are the same number
   wherever `m` is not negative and either below `2 ^ 126` or infinite. -/
module

public import Idealize.ShloMosaic.PureOps.Ideal
public import Idealize.ShloMosaic.Lib.Pointwise
public import Mathlib.Tactic.Linarith
public import Mathlib.Tactic.NormNum.Basic
public import Mathlib.Tactic.Positivity
public import Mathlib.Tactic.Lift

@[expose] public section

noncomputable section

namespace Cert.Exponent

open Idealize.ShloMosaic

/-- The word with exponent field `k` and fraction 0. -/
abbrev power (k : ℕ) : BitVec 32 := IntOp.shli .vector (BitVec.ofNat 32 k) 23#32

theorem power_fields : ∀ k : Fin 256, ((power k).extractLsb' 31 1 == 1#1) = false
    ∧ ((power k).extractLsb' 23 8).toNat = k.val ∧ ((power k).extractLsb' 0 23).toNat = 0 := by decide +kernel

/-- What the word with exponent field `k` denotes. -/
theorem ofBits_power (k : Fin 256) : Ideal.ofBits .f32 (power k)
    = if k.val = 255 then ⊤ else if k.val = 0 then 0 else (((2 : ℝ) ^ ((k.val : ℤ) - 127) : ℝ) : EReal) := by
  obtain ⟨h1, h2, h3⟩ := power_fields k
  show Ideal.ieee 8 23 (power k) = _
  unfold Ideal.ieee
  dsimp only
  rw [h2, h3, show (8 + 23 : ℕ) = 31 from rfl, h1]
  have e8 : (2 ^ 8 - 1 : ℕ) = 255 := by norm_num
  by_cases e : k.val = 255
  · rw [if_pos (by rw [e8]; exact e), if_pos rfl, if_pos e]; rfl
  by_cases z : k.val = 0
  · rw [if_neg (by rw [e8]; exact e), if_neg e, if_pos z]
    simp [z]
  · rw [if_neg (by rw [e8]; exact e), if_neg e, if_neg z, if_neg z]
    simp only [Bool.false_eq_true, if_false]
    refine congrArg (fun r : ℝ => (r : EReal)) ?_
    have : (2 : ℝ) ^ 23 = (2 : ℝ) ^ (23 : ℤ) := by norm_cast
    rw [one_mul, add_zero, Nat.cast_pow, Nat.cast_ofNat, this, ← zpow_add₀ (by simp : (2 : ℝ) ≠ 0)]
    refine congrArg (fun k : ℤ => (2 : ℝ) ^ k) ?_
    omega

/-- The code of `k` as a number. -/
theorem code_val (k : Fin 256) : (FloatOps.sitofp .f32 (BitVec.ofNat 32 k.val) : Ideal .f32) = ((k.val : ℝ) : EReal) := by
  show (((BitVec.ofNat 32 k.val).toInt : ℝ) : EReal) = _
  have : (BitVec.ofNat 32 k.val).toInt = (k.val : ℤ) := by
    have := k.isLt
    rw [BitVec.toInt_ofNat', Int.bmod_eq_of_le] <;> omega
  rw [this]; norm_cast

/-- The kernel's exponent field of `m`: the largest code whose power of two is at most `m`. -/
abbrev field (m : EReal) : EReal :=
  Finset.fold max (Ideal.ofBits .f32 0xFF800000#32)
    (fun k : Fin 256 => if Ideal.ofBits .f32 (power k) ≤ m then FloatOps.sitofp (F := Ideal) .f32 (BitVec.ofNat 32 k) else 0) Finset.univ

/-- The kernel's exponent of the scale, as a word. -/
abbrev expWord (m : EReal) : BitVec 32 :=
  Scalar.select (IntOp.ori (IntOp.cmpi .eq (FloatOps.fptosi (F := Ideal) (φ := .f32) 32 (field m)) 0#32)
      (IntOp.cmpi .eq (FloatOps.fptosi (F := Ideal) (φ := .f32) 32 (field m)) 255#32))
    0#32 (IntOp.subi (FloatOps.fptosi (F := Ideal) (φ := .f32) 32 (field m)) 126#32)

/-- The kernel's scale and its inverse. -/
abbrev kernelScale (m : EReal) : EReal := Ideal.ofBits .f32 (IntOp.shli .vector (IntOp.addi 127#32 (expWord m)) 23#32)
abbrev kernelInverse (m : EReal) : EReal := Ideal.ofBits .f32 (IntOp.shli .vector (IntOp.subi 127#32 (expWord m)) 23#32)

/-- The reference's exponent. -/
abbrev refExp (m : EReal) : EReal :=
  Scalar.select (IntOp.ori (Ideal.cmp .olt m (Ideal.ofBits .f32 0x00800000#32)) (Ideal.cmp .oeq m (Ideal.ofBits .f32 0x7F800000#32)))
    (0 : EReal) (Ideal.liftRound Int.floor (Ideal.div (Ideal.log m) (Ideal.log (Ideal.ofBits .f32 0x40000000#32))) + (1 : EReal))

theorem ofBits_least : Ideal.ofBits .f32 0xFF800000#32 = ⊥ := by simp [Ideal.ofBits, Ideal.ieee]
theorem ofBits_tiny : Ideal.ofBits .f32 0x00800000#32 = (((2 : ℝ) ^ (-126 : ℤ) : ℝ) : EReal) := by
  have h := ofBits_power ⟨1, by decide⟩
  rw [show power 1 = 0x00800000#32 from by decide +kernel] at h
  simpa using h
theorem ofBits_inf : Ideal.ofBits .f32 0x7F800000#32 = ⊤ := by
  have h := ofBits_power ⟨255, by decide⟩
  rw [show power 255 = 0x7F800000#32 from by decide +kernel] at h
  simpa using h
theorem ofBits_two : Ideal.ofBits .f32 0x40000000#32 = ((2 : ℝ) : EReal) := by
  have h := ofBits_power ⟨128, by decide⟩
  rw [show power 128 = 0x40000000#32 from by decide +kernel] at h
  simpa using h

/-- The field is `n` when the codes whose power is at most `m` are those up to `n`. -/
theorem field_eq (m : EReal) (n : Fin 256) (hn : ∀ k : Fin 256, 1 ≤ k.val → (Ideal.ofBits .f32 (power k) ≤ m ↔ k.val ≤ n.val))
    (h0 : 0 ≤ m) : field m = ((n.val : ℝ) : EReal) := by
  have cond (k : Fin 256) : Ideal.ofBits .f32 (power k) ≤ m ↔ k.val ≤ n.val := by
    by_cases z : k.val = 0
    · rw [ofBits_power, z]; simpa using h0
    · exact hn k (by omega)
  unfold field
  simp only [cond, code_val, ofBits_least]
  apply le_antisymm
  · rw [Finset.fold_max_le]
    refine ⟨bot_le, fun k _ => ?_⟩
    split
    · rename_i h; exact_mod_cast h
    · exact_mod_cast Nat.zero_le _
  · rw [Finset.le_fold_max]
    exact Or.inr ⟨n, Finset.mem_univ _, by simp⟩

/-- The exponent word of a field. -/
theorem fptosi_nat (n : Fin 256) : FloatOps.fptosi (F := Ideal) (φ := .f32) 32 ((n.val : ℝ) : EReal) = BitVec.ofNat 32 n.val := by
  show BitVec.ofInt 32 (Ideal.toIntClamped _ _ ((n.val : ℝ) : EReal)) = _
  have : Ideal.toIntClamped (-(2 ^ (32 - 1) : Nat)) ((2 ^ (32 - 1) : Nat) - 1) ((n.val : ℝ) : EReal) = (n.val : ℤ) := by
    show max _ (min _ (if (0 : ℝ) ≤ (n.val : ℝ) then ⌊(n.val : ℝ)⌋ else _)) = _
    rw [if_pos (Nat.cast_nonneg _), Int.floor_natCast]
    have := n.isLt
    omega
  rw [this]; exact BitVec.ofInt_natCast ..

/-- The words of the scale and of its inverse, over the 256 fields. -/
theorem words : ∀ n : Fin 256,
    IntOp.shli .vector (IntOp.addi 127#32 (Scalar.select (IntOp.ori (IntOp.cmpi .eq (BitVec.ofNat 32 n.val) 0#32)
      (IntOp.cmpi .eq (BitVec.ofNat 32 n.val) 255#32)) 0#32 (IntOp.subi (BitVec.ofNat 32 n.val) 126#32))) 23#32
        = (if n.val = 0 ∨ n.val = 255 then power 127 else power (n.val + 1))
    ∧ (n.val ≤ 253 → IntOp.shli .vector (IntOp.subi 127#32 (Scalar.select (IntOp.ori (IntOp.cmpi .eq (BitVec.ofNat 32 n.val) 0#32)
      (IntOp.cmpi .eq (BitVec.ofNat 32 n.val) 255#32)) 0#32 (IntOp.subi (BitVec.ofNat 32 n.val) 126#32))) 23#32
        = (if n.val = 0 then power 127 else power (253 - n.val)))
    ∧ (n.val = 255 → IntOp.shli .vector (IntOp.subi 127#32 (Scalar.select (IntOp.ori (IntOp.cmpi .eq (BitVec.ofNat 32 n.val) 0#32)
      (IntOp.cmpi .eq (BitVec.ofNat 32 n.val) 255#32)) 0#32 (IntOp.subi (BitVec.ofNat 32 n.val) 126#32))) 23#32 = power 127) := by
  decide +kernel

theorem pow_two_zero : Ideal.pow (Ideal.ofBits .f32 0x40000000#32) 0 = 1 := by
  rw [ofBits_two, ← EReal.coe_zero, Ideal.pow_coe_coe]; simp

theorem ofBits_one : Ideal.ofBits .f32 (power 127) = 1 := by
  simpa using ofBits_power ⟨127, by decide⟩

/-- The reference's exponent where there is none to take. -/
theorem refExp_none (m : EReal) (h : m < (((2 : ℝ) ^ (-126 : ℤ) : ℝ) : EReal) ∨ m = ⊤) : refExp m = 0 := by
  unfold refExp
  rw [ofBits_tiny, ofBits_inf]
  have : IntOp.ori (Ideal.cmp .olt m (((2 : ℝ) ^ (-126 : ℤ) : ℝ) : EReal)) (Ideal.cmp .oeq m ⊤) = 1#1 := by
    rcases h with h | h
    · have : Ideal.cmp .olt m (((2 : ℝ) ^ (-126 : ℤ) : ℝ) : EReal) = 1#1 := by
        show BitVec.ofBool (decide _) = _
        rw [decide_eq_true h]; rfl
      rw [this]
      rcases BitVec.eq_zero_or_eq_one (Ideal.cmp .oeq m ⊤) with e | e <;> rw [e] <;> decide
    · have : Ideal.cmp .oeq m ⊤ = 1#1 := by
        show BitVec.ofBool (decide _) = _
        rw [decide_eq_true h]; rfl
      rw [this]
      rcases BitVec.eq_zero_or_eq_one (Ideal.cmp .olt m (((2 : ℝ) ^ (-126 : ℤ) : ℝ) : EReal)) with e | e <;> rw [e] <;> decide
  rw [this]; rfl

/-- The logarithm rounded down, as a whole number. -/
abbrev log2 (r : ℝ) : ℤ := ⌊Real.log r * (Real.log 2)⁻¹⌋

theorem le_log2 (r : ℝ) (hr : 0 < r) (k : ℤ) : k ≤ log2 r ↔ (2 : ℝ) ^ k ≤ r := by
  have l2 : 0 < Real.log 2 := Real.log_pos one_lt_two
  rw [Int.le_floor, ← div_eq_mul_inv, le_div_iff₀ l2, ← Real.log_zpow,
    Real.log_le_log_iff (zpow_pos zero_lt_two k) hr]

/-- The reference's exponent of a number at least the smallest normal one. -/
theorem refExp_real (r : ℝ) (h : (2 : ℝ) ^ (-126 : ℤ) ≤ r) : refExp (r : EReal) = (((log2 r + 1 : ℤ) : ℝ) : EReal) := by
  have hr : 0 < r := lt_of_lt_of_le (by positivity) h
  unfold refExp
  rw [ofBits_tiny, ofBits_inf, ofBits_two]
  have c1 : Ideal.cmp .olt (r : EReal) (((2 : ℝ) ^ (-126 : ℤ) : ℝ) : EReal) = 0#1 := by
    show BitVec.ofBool (decide _) = _
    rw [decide_eq_false (not_lt.mpr (EReal.coe_le_coe_iff.mpr h))]; rfl
  have c2 : Ideal.cmp .oeq (r : EReal) ⊤ = 0#1 := by
    show BitVec.ofBool (decide _) = _
    rw [decide_eq_false (EReal.coe_ne_top r)]; rfl
  rw [c1, c2, show IntOp.ori (0#1) (0#1) = 0#1 from rfl]
  show Ideal.liftRound Int.floor (Ideal.div (Ideal.log (r : EReal)) (Ideal.log ((2 : ℝ) : EReal))) + 1 = _
  rw [Ideal.log_coe, Ideal.log_coe, if_neg (not_le.mpr hr), if_neg (by norm_num)]
  have l2 : Real.log 2 ≠ 0 := (Real.log_pos one_lt_two).ne'
  have hd : Ideal.div (Real.log r : EReal) (Real.log 2 : EReal) = ((Real.log r * (Real.log 2)⁻¹ : ℝ) : EReal) := by
    unfold Ideal.div
    rw [if_neg (by exact_mod_cast l2), ← EReal.coe_inv, ← EReal.coe_mul]
  rw [hd]
  show ((((log2 r : ℤ) : ℝ)) : EReal) + 1 = _
  norm_cast

theorem pow_two_int (k : ℤ) : Ideal.pow (Ideal.ofBits .f32 0x40000000#32) (((k : ℤ) : ℝ) : EReal) = (((2 : ℝ) ^ k : ℝ) : EReal) := by
  rw [ofBits_two, Ideal.pow_coe_coe]
  congr 1
  exact Real.rpow_intCast 2 k

/-- The scale and its inverse are the reference's. -/
theorem scale_eq (m : EReal) (h0 : 0 ≤ m) (h : m < (((2 : ℝ) ^ (126 : ℤ) : ℝ) : EReal) ∨ m = ⊤) :
    kernelScale m = Ideal.pow (Ideal.ofBits .f32 0x40000000#32) (refExp m)
    ∧ kernelInverse m = Ideal.pow (Ideal.ofBits .f32 0x40000000#32) (-refExp m) := by
  -- no exponent: the field is 0 or 255
  have none (n : Fin 256) (hf : field m = ((n.val : ℝ) : EReal)) (hn : n.val = 0 ∨ n.val = 255) (hr : refExp m = 0) :
      kernelScale m = Ideal.pow (Ideal.ofBits .f32 0x40000000#32) (refExp m)
      ∧ kernelInverse m = Ideal.pow (Ideal.ofBits .f32 0x40000000#32) (-refExp m) := by
    rw [hr, neg_zero, pow_two_zero, ← ofBits_one]
    unfold kernelScale kernelInverse expWord
    rw [hf, fptosi_nat]
    obtain ⟨w1, w2, w3⟩ := words n
    refine ⟨by rw [w1, if_pos hn], ?_⟩
    rcases hn with hn | hn
    · rw [w2 (by omega), if_pos hn]
    · rw [w3 hn]
  rcases h with h | h
  · by_cases ht : m < (((2 : ℝ) ^ (-126 : ℤ) : ℝ) : EReal)
    · refine none 0 (field_eq m 0 (fun k hk => ?_) h0) (Or.inl rfl) (refExp_none m (Or.inl ht))
      refine ⟨fun hc => ?_, fun hc => absurd hc (by simp; omega)⟩
      exfalso
      refine absurd (lt_of_le_of_lt hc ht) (not_lt.mpr ?_)
      rw [ofBits_power]
      split
      · exact le_top
      rw [if_neg (by omega)]
      refine EReal.coe_le_coe_iff.mpr (zpow_le_zpow_right₀ one_le_two (by omega))
    · lift m to ℝ using ⟨ne_top_of_lt h, (lt_of_lt_of_le EReal.bot_lt_zero h0).ne'⟩
      have hl : (2 : ℝ) ^ (-126 : ℤ) ≤ m := EReal.coe_le_coe_iff.mp (not_lt.mp ht)
      have hu : m < (2 : ℝ) ^ (126 : ℤ) := EReal.coe_lt_coe_iff.mp h
      have hm : 0 < m := lt_of_lt_of_le (by positivity) hl
      have l1 : -126 ≤ log2 m := (le_log2 m hm _).mpr hl
      have l2 : log2 m < 126 := by
        have := (le_log2 m hm 126).not.mpr (not_le.mpr hu)
        omega
      obtain ⟨n, hn⟩ : ∃ n : ℕ, (n : ℤ) = log2 m + 127 := ⟨(log2 m + 127).toNat, by omega⟩
      have n1 : 1 ≤ n := by omega
      have n2 : n ≤ 252 := by omega
      have hf : field (m : EReal) = (((⟨n, by omega⟩ : Fin 256).val : ℝ) : EReal) := by
        refine field_eq _ ⟨n, by omega⟩ (fun k hk => ?_) h0
        rw [ofBits_power]
        by_cases e : k.val = 255
        · rw [if_pos e]
          exact ⟨fun hc => absurd (top_le_iff.mp hc) (EReal.coe_ne_top m), fun hc => by simp only at hc; omega⟩
        · rw [if_neg e, if_neg (by omega), EReal.coe_le_coe_iff]
          rw [← le_log2 m hm]
          simp only
          omega
      rw [refExp_real m hl, pow_two_int]
      unfold kernelScale kernelInverse expWord
      rw [hf, fptosi_nat]
      obtain ⟨w1, w2, -⟩ := words ⟨n, by omega⟩
      rw [w1, w2 (by simp only; omega), if_neg (by simp only; omega), if_neg (by simp only; omega)]
      constructor
      · have := ofBits_power ⟨n + 1, by omega⟩
        rw [if_neg (by simp only; omega), if_neg (by simp only; omega)] at this
        simp only at this
        rw [this]; refine congrArg (fun k : ℤ => (((2 : ℝ) ^ k : ℝ) : EReal)) ?_; push_cast; omega
      · have := ofBits_power ⟨253 - n, by omega⟩
        rw [if_neg (by simp only; omega), if_neg (by simp only; omega)] at this
        simp only at this
        rw [this, ← EReal.coe_neg, ← Int.cast_neg, pow_two_int]; refine congrArg (fun k : ℤ => (((2 : ℝ) ^ k : ℝ) : EReal)) ?_; omega
  · refine none ⟨255, by decide⟩ (field_eq m ⟨255, by decide⟩ (fun k hk => ?_) h0) (Or.inr rfl) (refExp_none m (Or.inr h))
    rw [h]
    exact ⟨fun _ => by have := k.isLt; simp only; omega, fun _ => le_top⟩

end Cert.Exponent

end
-- ==== Proof.KernelPayloads.lean ====
/- What the kernel's stores hold, element by element, over the extended reals: the scale and the codes of a block of tokens, one
   group of columns of the projection, and one head of it after the rotation. -/
module

public import proofs.«01_k».proof.Proof.KernelIdealRun
public import proofs.«01_k».proof.Proof.Exponent
public import Idealize.ShloMosaic.Lib.Pointwise
public import Idealize.ShloMosaic.Lib.Pipeline.ReadBack

@[expose] public section

set_option maxRecDepth 16384

noncomputable section

namespace Cert.KernelIdeal.Blocks

open Cert.KernelIdeal.Gen Cert.Exponent Idealize.ShloMosaic

/-! ## The shapes of computation the stores share -/

/-- 512 columns of the projection: the product, its two scales and the bias. -/
def chunk (sc : FVec Ideal S256x1 .f32) (cd : Vec Ideal S256x5120 .fp8e4m3) (W : Vec Ideal S5120x512 .fp8e4m3) (S : Vec Ideal S1x512 .f32)
    (B : Vec Ideal S1x512 .bf16) : FVec Ideal S256x512 .f32 :=
  addf (mulf (mulf (matmul (φ₁ := .fp8e4m3) (φ₂ := .fp8e4m3) dot_S256x5120_S5120x512_S256x512_1_0_0_1_n_n none (shapeCast S256x5120 cd shapeCasts_S256x5120_S256x5120) W (constant S256x512 .f32 0x00000000#32))
        (broadcastTo S256x512 sc broadcasts_S256x1_S256x512))
      (broadcastTo S256x512 (shapeCast S1x512 S shapeCasts_S1x512_S1x512) broadcasts_S1x512_S256x512))
    (broadcastTo S256x512 (extf (φ := .bf16) .f32 (shapeCast S1x512 B shapeCasts_S1x512_S1x512) bitsLt_bf16_f32) broadcasts_S1x512_S256x512)

/-- One head of 128 columns. -/
def head (o : ℕ) (h : S256x512.Slices ![0, o] S256x128) (y : FVec Ideal S256x512 .f32) : FVec Ideal S256x128 .f32 :=
  extractStridedSlice S256x128 ![0, o] y h

/-- The rotation of a head. -/
def rope (co si y : FVec Ideal S256x128 .f32) : FVec Ideal S256x128 .f32 :=
  addf (mulf y co) (mulf (dynamicRotate 1 64#32 none y rotates_S256x128_d1) si)

/-- Two heads, row by row in turn. -/
def pair (a b : FVec Ideal S256x128 .f32) : Vec Ideal S256x2x128 .bf16 :=
  interleaveRows S256x2x128 (shapeCast S256x1x128 (truncf .bf16 a bitsLt_bf16_f32) shapeCasts_S256x128_S256x1x128)
    (shapeCast S256x1x128 (truncf .bf16 b bitsLt_bf16_f32) shapeCasts_S256x128_S256x1x128) bitcasts_S256x2x128_w16_S256x1x128_w32

/-- One head stored by itself. -/
def slab (a : FVec Ideal S256x128 .f32) : FVec Ideal S1x256x128 .bf16 :=
  shapeCast S1x256x128 (truncf .bf16 a bitsLt_bf16_f32) shapeCasts_S256x128_S1x256x128

theorem chunk_apply (sc cd W S B) (r : Fin 256) (j : Fin 512) : chunk sc cd W S B (ix2 r j)
    = (∑ k, cd (ix2 r k) * W (ix2 k j)) * sc (ix2 r 0) * S (ix2 0 j) + B (ix2 0 j) := by
  pointwise [chunk]

theorem rope_apply (co si y) (r : Fin 256) (d : Fin 128) : rope co si y (ix2 r d)
    = y (ix2 r d) * co (ix2 r d) + y (ix2 r ⟨(d.val + 64) % 128, Nat.mod_lt _ (by decide)⟩) * si (ix2 r d) := by
  have e : (d.val + 64) % 128 = (d.val + 128 - 64) % 128 := by omega
  simp only [e]
  pointwise [rope]

theorem head_apply (o h y) (r : Fin 256) (d : Fin 128) (ho : o + 128 ≤ 512) : head o h y (ix2 r d) = y (ix2 r ⟨o + d.val, by omega⟩) := by
  unfold head
  show y _ = y _
  congr 1
  funext a
  fin_cases a
  · exact Fin.ext (Nat.zero_add _)
  · rfl

theorem pair_apply (a b) (r : Fin 256) (e : Fin 2) (d : Fin 128) : pair a b (ix3 r e d) = if e.val % 2 = 0 then a (ix2 r d) else b (ix2 r d) := by
  pointwise [pair]

theorem slab_apply (a) (z : Fin 1) (r : Fin 256) (d : Fin 128) : slab a (ix3 z r d) = a (ix2 r d) := by
  pointwise [slab]

/-! ## The scale and the codes -/

/-- The largest absolute value of a row, over 448. -/
def peak (x : Vec Ideal S256x5120 .bf16) (r : Fin 256) : EReal :=
  Finset.fold max (Ideal.ofBits .f32 0xFF800000#32) (fun k : Fin 5120 => FloatOps.absf (F := Ideal) (φ := .bf16) (x (ix2 r k))) Finset.univ * Ideal.ofBits .f32 0x3B124925#32

theorem exp_apply (x : Vec Ideal S256x5120 .bf16) (r : Fin 256) (z : Fin 1) : k0_pay3 x (ix2 r z) = expWord (peak x r) := by
  unfold expWord field peak power
  pointwise [k0_pay3, k0_pay2]

theorem scale_apply (x : Vec Ideal S256x5120 .bf16) (r : Fin 256) (z : Fin 1) : k0_pay4 x (ix2 r z) = kernelScale (peak x r) := by
  pointwise [k0_pay4]
  rw [exp_apply]

theorem codes_apply (x : Vec Ideal S256x5120 .bf16) (r : Fin 256) (k : Fin 5120) :
    k0_pay6 (k0_pay5 x) (FloatOps.ofBits .f32 0xC3E00000#32) (FloatOps.ofBits .f32 0x43E00000#32) (ix2 r k)
      = min (Ideal.ofBits .f32 0x43E00000#32) (max (Ideal.ofBits .f32 0xC3E00000#32) (x (ix2 r k) * kernelInverse (peak x r))) := by
  pointwise [k0_pay6, k0_pay5, k0_pay2]
  rw [exp_apply]

/-! ## The angles -/

theorem angle_apply (p q : Vec Ideal S1x1x128 .i32) (f : Vec Ideal S1x128 .f32) (r : Fin 256) (d : Fin 128) : k0_pay10 p q f (ix2 r d)
    = (if h : r.val < 128 then FloatOps.sitofp (F := Ideal) .f32 (p (ix3 0 0 ⟨r.val, h⟩)) else FloatOps.sitofp (F := Ideal) .f32 (q (ix3 0 0 ⟨r.val - 128, by omega⟩))) * f (ix2 0 d) := by
  pointwise [k0_pay10]

theorem sine_apply (s : FVec Ideal S256x128 .f32) (r : Fin 256) (d : Fin 128) :
    k0_pay13 s (ix2 r d) = if d.val < 64 then 0 - s (ix2 r d) else s (ix2 r d) := by
  pointwise [k0_pay13]
  rw [WordCmp.cmpi_slt_ofNat (by omega) (by omega)]
  by_cases h : d.val < 64
  · rw [if_pos h, decide_eq_true h]; rfl
  · rw [if_neg h, decide_eq_false h]; rfl

end Cert.KernelIdeal.Blocks

end
-- ==== Proof.KernelBlocks.lean ====
/- What each output's block holds when a grid point's stores are made, entry by entry, in terms of the point's input blocks. -/
module

public import proofs.«01_k».proof.Proof.KernelPayloads
public import Idealize.ShloMosaic.Lib.WholeRead

@[expose] public section

set_option maxRecDepth 16384

noncomputable section

namespace Cert.KernelIdeal.Blocks

open Cert.KernelIdeal.Gen Cert.KernelIdeal.Point Cert.Exponent Idealize.ShloMosaic Idealize.ShloMosaic.TcCoe Idealize.ShloMosaic.Tactic

/-! ## The contents of a block -/

/-- The code of one element of a row. -/
def code (X : Vec Ideal S256x5120 .bf16) (r : Fin 256) (k : Fin 5120) : EReal :=
  min (Ideal.ofBits .f32 0x43E00000#32) (max (Ideal.ofBits .f32 0xC3E00000#32) (X (ix2 r k) * kernelInverse (peak X r)))

/-- One element of the projection: the product of the codes, times the row's and the column's scale, plus the bias. -/
def proj (X : Vec Ideal S256x5120 .bf16) (W : Vec Ideal S5120x7680 .fp8e4m3) (S : Vec Ideal S1x7680 .f32) (B : Vec Ideal S1x7680 .bf16)
    (r : Fin 256) (j : Fin 7680) : EReal :=
  (∑ k, code X r k * W (ix2 k j)) * kernelScale (peak X r) * S (ix2 0 j) + B (ix2 0 j)

/-- The angle of a row at one place of a head. -/
def turn (P : Vec Ideal S1x2x128 .i32) (f : Vec Ideal S1x128 .f32) (r : Fin 256) (d : Fin 128) : EReal :=
  FloatOps.sitofp (F := Ideal) .f32 (P (ix3 0 ⟨r.val / 128, by omega⟩ ⟨r.val % 128, by omega⟩)) * f (ix2 0 d)

/-- A head of 128 columns of the projection, rotated by the row's angles. -/
def rotated (a : Fin 128 → EReal) (y : Fin 128 → EReal) (d : Fin 128) : EReal :=
  y d * Ideal.cos (a d) + y ⟨(d.val + 64) % 128, Nat.mod_lt _ (by decide)⟩ * (if d.val < 64 then 0 - Ideal.sin (a d) else Ideal.sin (a d))

/-! ## The loads of a grid point -/

variable (m : (ℓ : Loc nD τ sig) → Buf (Elt Ideal) ℓ) (c : Dev nD) (t : Fin cfg0.N)

/-- The rows of the input, as the body loads them. -/
abbrev ldX : Vec Ideal S256x5120 .bf16 :=
  View.readAt (Elt Ideal) (ms0_2 t).view (Rect.unit (s := S256x5120) ![0, 0] S256x5120.size inb_S256x5120_S256x5120_0_0).toLoadRect ((hs0_2 t).unread (iblk m c 2 t))
/-- The codes, as the body loads them back. -/
abbrev ldC : Vec Ideal S256x5120 .fp8e4m3 :=
  (ms0_9 t).view.readCov [⟨Rect.unit (s := S256x5120) ![0, 0] S256x5120.size inb_S256x5120_S256x5120_0_0, k0_pay6 (k0_pay5 (ldX m c t)) (FloatOps.ofBits .f32 3286237184#32) (FloatOps.ofBits .f32 1138753536#32)⟩]
    (Rect.unit (s := S256x5120) ![0, 0] S256x5120.size inb_S256x5120_S256x5120_0_0).toLoadRect
/-- 512 columns from `n` on lie in the weights. -/
abbrev InW (n : ℕ) : Prop := ∀ a, (![0, n] : Fin 2 → ℕ) a + S5120x512.size a ≤ S5120x7680.size a
/-- 512 columns from `n` on lie in a row of the columns' scales or biases. -/
abbrev InRow (n : ℕ) : Prop := ∀ a, (![0, n] : Fin 2 → ℕ) a + S1x512.size a ≤ S1x7680.size a
/-- 512 columns of the weights. -/
abbrev ldW (n : ℕ) (h : InW n) : Vec Ideal S5120x512 .fp8e4m3 :=
  View.readAt (Elt Ideal) (ms0_3 t).view (Rect.unit (s := S5120x7680) ![0, n] S5120x512.size h).toLoadRect ((hs0_3 t).unread (iblk m c 3 t))
/-- The scales of 512 columns. -/
abbrev ldS (n : ℕ) (h : InRow n) : Vec Ideal S1x512 .f32 :=
  View.readAt (Elt Ideal) (ms0_4 t).view (Rect.unit (s := S1x7680) ![0, n] S1x512.size h).toLoadRect ((hs0_4 t).unread (iblk m c 4 t))
/-- The biases of 512 columns. -/
abbrev ldB (n : ℕ) (h : InRow n) : Vec Ideal S1x512 .bf16 :=
  View.readAt (Elt Ideal) (ms0_5 t).view (Rect.unit (s := S1x7680) ![0, n] S1x512.size h).toLoadRect ((hs0_5 t).unread (iblk m c 5 t))
/-- One of the two groups of 128 positions. -/
abbrev ldP (n : ℕ) (h : ∀ a, (![0, n, 0] : Fin 3 → ℕ) a + S1x1x128.size a ≤ S1x2x128.size a) : Vec Ideal S1x1x128 .i32 :=
  View.readAt (Elt Ideal) (ms0_0 t).view (Rect.unit (s := S1x2x128) ![0, n, 0] S1x1x128.size h).toLoadRect ((hs0_0 t).unread (iblk m c 0 t))
/-- The frequencies. -/
abbrev ldF : Vec Ideal S1x128 .f32 :=
  View.readAt (Elt Ideal) (ms0_1 t).view (Rect.unit (s := S1x128) ![0, 0] S1x128.size inb_S1x128_S1x128_0_0).toLoadRect ((hs0_1 t).unread (iblk m c 1 t))

theorem ldX_eq : ldX m c t = iblk m c 2 t := by
  funext x
  refine (Memref.IsWhole.readAt_unread (hs0_2 t) _ (Rect.unit (s := S256x5120) ![0, 0] S256x5120.size inb_S256x5120_S256x5120_0_0).toLoadRect x).trans (congrArg (iblk m c 2 t) ?_)
  funext a
  fin_cases a <;> exact Fin.ext (by show 0 + 1 * _ = _; omega)

theorem ldF_eq : ldF m c t = iblk m c 1 t := by
  funext x
  refine (Memref.IsWhole.readAt_unread (hs0_1 t) _ (Rect.unit (s := S1x128) ![0, 0] S1x128.size inb_S1x128_S1x128_0_0).toLoadRect x).trans (congrArg (iblk m c 1 t) ?_)
  funext a
  fin_cases a <;> exact Fin.ext (by show 0 + 1 * _ = _; omega)

theorem ldW_apply (n h) (k : Fin 5120) (j : Fin 512) (hn : n + 512 ≤ 7680) : ldW m c t n h (ix2 k j) = iblk m c 3 t (ix2 k ⟨n + j.val, by omega⟩) := by
  refine (Memref.IsWhole.readAt_unread (hs0_3 t) _ _ _).trans (congrArg (iblk m c 3 t) ?_)
  funext a
  fin_cases a
  · exact Fin.ext (by show 0 + 1 * k.val = k.val; omega)
  · exact Fin.ext (by show n + 1 * j.val = n + j.val; omega)

theorem ldS_apply (n h) (z : Fin 1) (j : Fin 512) (hn : n + 512 ≤ 7680) : ldS m c t n h (ix2 z j) = iblk m c 4 t (ix2 z ⟨n + j.val, by omega⟩) := by
  refine (Memref.IsWhole.readAt_unread (hs0_4 t) _ _ _).trans (congrArg (iblk m c 4 t) ?_)
  funext a
  fin_cases a
  · exact Fin.ext (by show 0 + 1 * z.val = z.val; omega)
  · exact Fin.ext (by show n + 1 * j.val = n + j.val; omega)

theorem ldB_apply (n h) (z : Fin 1) (j : Fin 512) (hn : n + 512 ≤ 7680) : ldB m c t n h (ix2 z j) = iblk m c 5 t (ix2 z ⟨n + j.val, by omega⟩) := by
  refine (Memref.IsWhole.readAt_unread (hs0_5 t) _ _ _).trans (congrArg (iblk m c 5 t) ?_)
  funext a
  fin_cases a
  · exact Fin.ext (by show 0 + 1 * z.val = z.val; omega)
  · exact Fin.ext (by show n + 1 * j.val = n + j.val; omega)

theorem ldP_apply (n h) (z z' : Fin 1) (j : Fin 128) (hn : n < 2) : ldP m c t n h (ix3 z z' j) = iblk m c 0 t (ix3 z ⟨n, hn⟩ j) := by
  refine (Memref.IsWhole.readAt_unread (hs0_0 t) _ _ _).trans (congrArg (iblk m c 0 t) ?_)
  funext a
  fin_cases a
  · exact Fin.ext (by show 0 + 1 * z.val = z.val; omega)
  · exact Fin.ext (by show n + 1 * z'.val = n; omega)
  · exact Fin.ext (by show 0 + 1 * j.val = j.val; omega)

theorem ldC_apply (r : Fin 256) (k : Fin 5120) : ldC m c t (ix2 r k) = code (iblk m c 2 t) r k := by
  unfold ldC
  rw [View.readCov_unit_lit _ _ _ (by intro a; fin_cases a <;> rfl)]
  rw [ldX_eq]
  exact codes_apply _ r k

/-! ## One group of columns and one head of a grid point -/

/-- The row's scales, as the body computes them. -/
abbrev scaleAt : FVec Ideal S256x1 .f32 := k0_pay4 (ldX m c t)
/-- The cosines. -/
abbrev cosAt : FVec Ideal S256x128 .f32 := k0_pay11 (ldP m c t 0 inb_S1x2x128_S1x1x128_0_0_0) (ldP m c t 1 inb_S1x2x128_S1x1x128_0_1_0) (ldF m c t)
/-- The sines, the first half of them negated. -/
abbrev sinAt : FVec Ideal S256x128 .f32 := k0_pay13 (k0_pay12 (ldP m c t 0 inb_S1x2x128_S1x1x128_0_0_0) (ldP m c t 1 inb_S1x2x128_S1x1x128_0_1_0) (ldF m c t))
/-- The 512 columns from `n` on. -/
abbrev chunkAt (n : ℕ) (hW : InW n) (hS hB : InRow n) : FVec Ideal S256x512 .f32 := chunk (scaleAt m c t) (ldC m c t) (ldW m c t n hW) (ldS m c t n hS) (ldB m c t n hB)

/-- An element of the projection of the point's rows. -/
abbrev projAt (r : Fin 256) (j : Fin 7680) : EReal := proj (iblk m c 2 t) (iblk m c 3 t) (iblk m c 4 t) (iblk m c 5 t) r j
/-- An angle of the point's rows. -/
abbrev turnAt (r : Fin 256) (d : Fin 128) : EReal := turn (iblk m c 0 t) (iblk m c 1 t) r d

theorem scaleAt_apply (r : Fin 256) (z : Fin 1) : scaleAt m c t (ix2 r z) = kernelScale (peak (iblk m c 2 t) r) := by
  rw [scaleAt, ldX_eq]; exact scale_apply _ r z

theorem chunkAt_apply (n hW hS hB) (hn : n + 512 ≤ 7680) (r : Fin 256) (j : Fin 512) : chunkAt m c t n hW hS hB (ix2 r j) = projAt m c t r ⟨n + j.val, by omega⟩ := by
  refine (chunk_apply ..).trans ?_
  rw [scaleAt_apply, ldS_apply m c t n hS 0 j hn, ldB_apply m c t n hB 0 j hn]
  simp only [ldC_apply, ldW_apply m c t n hW _ j hn]
  rfl

theorem angleAt_apply (r : Fin 256) (d : Fin 128) :
    k0_pay10 (ldP m c t 0 inb_S1x2x128_S1x1x128_0_0_0) (ldP m c t 1 inb_S1x2x128_S1x1x128_0_1_0) (ldF m c t) (ix2 r d) = turnAt m c t r d := by
  rw [angle_apply, ldF_eq]
  unfold turnAt turn
  by_cases h : r.val < 128
  · rw [dif_pos h, ldP_apply m c t 0 _ 0 0 _ (by decide)]
    have e1 : (⟨0, by decide⟩ : Fin 2) = ⟨r.val / 128, by omega⟩ := Fin.ext (by show 0 = r.val / 128; omega)
    have e2 : (⟨r.val, h⟩ : Fin 128) = ⟨r.val % 128, by omega⟩ := Fin.ext (by show r.val = r.val % 128; omega)
    rw [e1, e2]
  · rw [dif_neg h, ldP_apply m c t 1 _ 0 0 _ (by decide)]
    have e1 : (⟨1, by decide⟩ : Fin 2) = ⟨r.val / 128, by omega⟩ := Fin.ext (by show 1 = r.val / 128; omega)
    have e2 : (⟨r.val - 128, by omega⟩ : Fin 128) = ⟨r.val % 128, by omega⟩ := Fin.ext (by show r.val - 128 = r.val % 128; omega)
    rw [e1, e2]

theorem cosAt_apply (r : Fin 256) (d : Fin 128) : cosAt m c t (ix2 r d) = Ideal.cos (turnAt m c t r d) := by
  rw [← angleAt_apply]; rfl

theorem sinAt_apply (r : Fin 256) (d : Fin 128) : sinAt m c t (ix2 r d) = if d.val < 64 then 0 - Ideal.sin (turnAt m c t r d) else Ideal.sin (turnAt m c t r d) := by
  rw [← angleAt_apply]; exact sine_apply _ r d

theorem headAt_apply (n hW hS hB) (o : ℕ) (h) (hn : n + 512 ≤ 7680) (ho : o + 128 ≤ 512) (r : Fin 256) (d : Fin 128) :
    rope (cosAt m c t) (sinAt m c t) (head o h (chunkAt m c t n hW hS hB)) (ix2 r d)
      = rotated (turnAt m c t r) (fun d => projAt m c t r ⟨n + (o + d.val), by omega⟩) d := by
  rw [rope_apply, cosAt_apply, sinAt_apply, head_apply _ _ _ _ _ ho, head_apply _ _ _ _ _ ho, chunkAt_apply m c t n hW hS hB hn, chunkAt_apply m c t n hW hS hB hn]
  rfl

/-! ## The blocks -/

/-- The block for the query heads, its rows in pairs: 20 pairs of heads to each row of the input. -/
def blockQ (y : S5120x2x128.Idx) : EReal :=
  rotated (turnAt m c t ⟨(y 0).val / 20, by have : (y 0).val < 5120 := (y 0).isLt; omega⟩)
    (fun d => projAt m c t ⟨(y 0).val / 20, by have : (y 0).val < 5120 := (y 0).isLt; omega⟩
      ⟨128 * (2 * ((y 0).val % 20) + (y 1).val) + d.val, by have : (y 1).val < 2 := (y 1).isLt; omega⟩) (y 2)

/-- The block for the key heads. -/
def blockK (y : S10x256x128.Idx) : EReal :=
  rotated (turnAt m c t (y 1)) (fun d => projAt m c t (y 1) ⟨5120 + 128 * (y 0).val + d.val, by have : (y 0).val < 10 := (y 0).isLt; omega⟩) (y 2)

/-- The block for the value heads. -/
def blockV (y : S10x256x128.Idx) : EReal :=
  projAt m c t (y 1) ⟨6400 + 128 * (y 0).val + (y 2).val, by have : (y 0).val < 10 := (y 0).isLt; have : (y 2).val < 128 := (y 2).isLt; omega⟩

theorem rotated_congr {a a' : Fin 128 → EReal} {y y' : Fin 128 → EReal} {d d' : Fin 128} (ha : a = a') (hy : y = y') (hd : d = d') :
    rotated a y d = rotated a' y' d' := by rw [ha, hy, hd]

/-- One store into the block for the query heads: a pair of heads, every twentieth row. -/
theorem pieceQ (i n o : ℕ) {hW hS hB h h'} (hi : n + 512 ≤ 7680 ∧ o + 256 ≤ 512 ∧ n + o = 256 * i ∧ i < 20) (x : S256x2x128.Idx) (y : S5120x2x128.Idx)
    (h0 : (y 0).val = i + 20 * (x 0).val) (h1 : (y 1).val = 0 + 1 * (x 1).val) (h2 : (y 2).val = 0 + 1 * (x 2).val) :
    pair (rope (cosAt m c t) (sinAt m c t) (head o h (chunkAt m c t n hW hS hB))) (rope (cosAt m c t) (sinAt m c t) (head (o + 128) h' (chunkAt m c t n hW hS hB))) x
      = blockQ m c t y := by
  obtain ⟨hn, ho, e, hi⟩ := hi
  obtain ⟨r, u, d, rfl⟩ : ∃ (r : Fin 256) (u : Fin 2) (d : Fin 128), x = ix3 r u d := ⟨x 0, x 1, x 2, by funext a; fin_cases a <;> rfl⟩
  change (y 0).val = i + 20 * r.val at h0
  change (y 1).val = 0 + 1 * u.val at h1
  change (y 2).val = 0 + 1 * d.val at h2
  have er : (⟨(y 0).val / 20, by have : (y 0).val < 5120 := (y 0).isLt; omega⟩ : Fin 256) = r := Fin.ext (by show (y 0).val / 20 = r.val; omega)
  have ed : y 2 = d := Fin.ext (by omega)
  rw [pair_apply]
  unfold blockQ
  rw [er]
  by_cases hu : u.val % 2 = 0
  · rw [if_pos hu, headAt_apply m c t n hW hS hB o h hn (by omega)]
    refine rotated_congr rfl (funext fun d => congrArg _ (Fin.ext ?_)) ed.symm
    show n + (o + d.val) = 128 * (2 * ((y 0).val % 20) + (y 1).val) + d.val
    omega
  · rw [if_neg hu, headAt_apply m c t n hW hS hB (o + 128) h' hn (by omega)]
    refine rotated_congr rfl (funext fun d => congrArg _ (Fin.ext ?_)) ed.symm
    show n + (o + 128 + d.val) = 128 * (2 * ((y 0).val % 20) + (y 1).val) + d.val
    omega

/-- One store into the block for the key heads: a head. -/
theorem pieceK (i n o : ℕ) {hW hS hB h} (hi : n + 512 ≤ 7680 ∧ o + 128 ≤ 512 ∧ n + o = 5120 + 128 * i) (x : S1x256x128.Idx) (y : S10x256x128.Idx)
    (h0 : (y 0).val = i + 1 * (x 0).val) (h1 : (y 1).val = 0 + 1 * (x 1).val) (h2 : (y 2).val = 0 + 1 * (x 2).val) :
    slab (rope (cosAt m c t) (sinAt m c t) (head o h (chunkAt m c t n hW hS hB))) x = blockK m c t y := by
  obtain ⟨hn, ho, e⟩ := hi
  obtain ⟨z, r, d, rfl⟩ : ∃ (z : Fin 1) (r : Fin 256) (d : Fin 128), x = ix3 z r d := ⟨x 0, x 1, x 2, by funext a; fin_cases a <;> rfl⟩
  change (y 0).val = i + 1 * z.val at h0
  change (y 1).val = 0 + 1 * r.val at h1
  change (y 2).val = 0 + 1 * d.val at h2
  have er : y 1 = r := Fin.ext (by omega)
  have ed : y 2 = d := Fin.ext (by omega)
  rw [slab_apply, headAt_apply m c t n hW hS hB o h hn ho]
  unfold blockK
  rw [er]
  refine rotated_congr rfl (funext fun d => congrArg _ (Fin.ext ?_)) ed.symm
  show n + (o + d.val) = 5120 + 128 * (y 0).val + d.val
  omega

/-- One store into the block for the value heads: a head. -/
theorem pieceV (i n o : ℕ) {hW hS hB h} (hi : n + 512 ≤ 7680 ∧ o + 128 ≤ 512 ∧ n + o = 6400 + 128 * i) (x : S1x256x128.Idx) (y : S10x256x128.Idx)
    (h0 : (y 0).val = i + 1 * (x 0).val) (h1 : (y 1).val = 0 + 1 * (x 1).val) (h2 : (y 2).val = 0 + 1 * (x 2).val) :
    slab (head o h (chunkAt m c t n hW hS hB)) x = blockV m c t y := by
  obtain ⟨hn, ho, e⟩ := hi
  obtain ⟨z, r, d, rfl⟩ : ∃ (z : Fin 1) (r : Fin 256) (d : Fin 128), x = ix3 z r d := ⟨x 0, x 1, x 2, by funext a; fin_cases a <;> rfl⟩
  change (y 0).val = i + 1 * z.val at h0
  change (y 1).val = 0 + 1 * r.val at h1
  change (y 2).val = 0 + 1 * d.val at h2
  have er : y 1 = r := Fin.ext (by omega)
  rw [slab_apply, head_apply _ _ _ _ _ ho, chunkAt_apply m c t n hW hS hB hn]
  unfold blockV
  rw [er]
  refine congrArg _ (Fin.ext ?_)
  show n + (o + d.val) = 6400 + 128 * (y 0).val + (y 2).val
  omega

end Cert.KernelIdeal.Blocks

end
-- ==== Proof.KernelStores.lean ====
/- The stores of one grid point, read against the blocks they make: each store is a part of its block, and together they are all of it. -/
module

public import proofs.«01_k».proof.Proof.KernelBlocks

@[expose] public section

set_option maxRecDepth 16384

noncomputable section

namespace Cert.KernelIdeal.Blocks

open Cert.KernelIdeal.Gen Cert.KernelIdeal.Point Cert.Exponent Idealize.ShloMosaic Idealize.ShloMosaic.TcCoe Idealize.ShloMosaic.Tactic

variable (m : (ℓ : Loc nD τ sig) → Buf (Elt Ideal) ℓ) (c : Dev nD) (t : Fin cfg0.N)

set_option maxHeartbeats 2000000 in
/-- The stores for the query heads, the last one first. -/
theorem piecesQ : View.PiecesOf (blockQ m c t) (stores6 m c t) := by
  unfold stores6 runAt run
  dsimp only
  sl_unfold_words
  exact ⟨fun x => pieceQ m c t 19 4608 256 (by decide) x _ rfl rfl rfl,
    fun x => pieceQ m c t 18 4608 0 (by decide) x _ rfl rfl rfl,
    fun x => pieceQ m c t 17 4096 256 (by decide) x _ rfl rfl rfl,
    fun x => pieceQ m c t 16 4096 0 (by decide) x _ rfl rfl rfl,
    fun x => pieceQ m c t 15 3584 256 (by decide) x _ rfl rfl rfl,
    fun x => pieceQ m c t 14 3584 0 (by decide) x _ rfl rfl rfl,
    fun x => pieceQ m c t 13 3072 256 (by decide) x _ rfl rfl rfl,
    fun x => pieceQ m c t 12 3072 0 (by decide) x _ rfl rfl rfl,
    fun x => pieceQ m c t 11 2560 256 (by decide) x _ rfl rfl rfl,
    fun x => pieceQ m c t 10 2560 0 (by decide) x _ rfl rfl rfl,
    fun x => pieceQ m c t 9 2048 256 (by decide) x _ rfl rfl rfl,
    fun x => pieceQ m c t 8 2048 0 (by decide) x _ rfl rfl rfl,
    fun x => pieceQ m c t 7 1536 256 (by decide) x _ rfl rfl rfl,
    fun x => pieceQ m c t 6 1536 0 (by decide) x _ rfl rfl rfl,
    fun x => pieceQ m c t 5 1024 256 (by decide) x _ rfl rfl rfl,
    fun x => pieceQ m c t 4 1024 0 (by decide) x _ rfl rfl rfl,
    fun x => pieceQ m c t 3 512 256 (by decide) x _ rfl rfl rfl,
    fun x => pieceQ m c t 2 512 0 (by decide) x _ rfl rfl rfl,
    fun x => pieceQ m c t 1 0 256 (by decide) x _ rfl rfl rfl,
    fun x => pieceQ m c t 0 0 0 (by decide) x _ rfl rfl rfl, trivial⟩

set_option maxHeartbeats 2000000 in
/-- The stores for the key heads, the last one first. -/
theorem piecesK : View.PiecesOf (blockK m c t) (stores7 m c t) := by
  unfold stores7 runAt run
  dsimp only
  sl_unfold_words
  exact ⟨fun x => pieceK m c t 9 6144 128 (by decide) x _ rfl rfl rfl,
    fun x => pieceK m c t 8 6144 0 (by decide) x _ rfl rfl rfl,
    fun x => pieceK m c t 7 5632 384 (by decide) x _ rfl rfl rfl,
    fun x => pieceK m c t 6 5632 256 (by decide) x _ rfl rfl rfl,
    fun x => pieceK m c t 5 5632 128 (by decide) x _ rfl rfl rfl,
    fun x => pieceK m c t 4 5632 0 (by decide) x _ rfl rfl rfl,
    fun x => pieceK m c t 3 5120 384 (by decide) x _ rfl rfl rfl,
    fun x => pieceK m c t 2 5120 256 (by decide) x _ rfl rfl rfl,
    fun x => pieceK m c t 1 5120 128 (by decide) x _ rfl rfl rfl,
    fun x => pieceK m c t 0 5120 0 (by decide) x _ rfl rfl rfl, trivial⟩

set_option maxHeartbeats 2000000 in
/-- The stores for the value heads, the last one first. -/
theorem piecesV : View.PiecesOf (blockV m c t) (stores8 m c t) := by
  unfold stores8 runAt run
  dsimp only
  sl_unfold_words
  exact ⟨fun x => pieceV m c t 9 7168 384 (by decide) x _ rfl rfl rfl,
    fun x => pieceV m c t 8 7168 256 (by decide) x _ rfl rfl rfl,
    fun x => pieceV m c t 7 7168 128 (by decide) x _ rfl rfl rfl,
    fun x => pieceV m c t 6 7168 0 (by decide) x _ rfl rfl rfl,
    fun x => pieceV m c t 5 6656 384 (by decide) x _ rfl rfl rfl,
    fun x => pieceV m c t 4 6656 256 (by decide) x _ rfl rfl rfl,
    fun x => pieceV m c t 3 6656 128 (by decide) x _ rfl rfl rfl,
    fun x => pieceV m c t 2 6656 0 (by decide) x _ rfl rfl rfl,
    fun x => pieceV m c t 1 6144 384 (by decide) x _ rfl rfl rfl,
    fun x => pieceV m c t 0 6144 256 (by decide) x _ rfl rfl rfl, trivial⟩

/-- The scales of the point's rows, 128 to a line. -/
def blockS (y : S1x2x128.Idx) : EReal :=
  kernelScale (peak (iblk m c 2 t) ⟨128 * (y 1).val + (y 2).val, by have : (y 1).val < 2 := (y 1).isLt; have : (y 2).val < 128 := (y 2).isLt; omega⟩)

theorem pay8_apply (s : FVec Ideal S256x1 .f32) (z z' : Fin 1) (d : Fin 128) : k0_pay8 s (ix3 z z' d) = s (ix2 ⟨d.val, by omega⟩ 0) := by
  pointwise [k0_pay8, k0_pay7]

theorem pay9_apply (s : FVec Ideal S256x1 .f32) (z z' : Fin 1) (d : Fin 128) : k0_pay9 s (ix3 z z' d) = s (ix2 ⟨128 + d.val, by omega⟩ 0) := by
  pointwise [k0_pay9, k0_pay7]

/-- One store into the block for the scales: a line of 128. -/
theorem pieceS (i : ℕ) (v : FVec Ideal S1x1x128 .f32) (hv : ∀ (z z' : Fin 1) (d : Fin 128) (h : 128 * i + d.val < 256), v (ix3 z z' d) = kernelScale (peak (iblk m c 2 t) ⟨128 * i + d.val, h⟩))
    (hi : i < 2) (x : S1x1x128.Idx) (y : S1x2x128.Idx) (h1 : (y 1).val = i + 1 * (x 1).val) (h2 : (y 2).val = 0 + 1 * (x 2).val) : v x = blockS m c t y := by
  obtain ⟨z, z', d, rfl⟩ : ∃ (z z' : Fin 1) (d : Fin 128), x = ix3 z z' d := ⟨x 0, x 1, x 2, by funext a; fin_cases a <;> rfl⟩
  change (y 1).val = i + 1 * z'.val at h1
  change (y 2).val = 0 + 1 * d.val at h2
  rw [hv z z' d (by omega)]
  unfold blockS
  refine congrArg (fun r => kernelScale (peak (iblk m c 2 t) r)) (Fin.ext ?_)
  show 128 * i + d.val = 128 * (y 1).val + (y 2).val
  omega

/-- The stores for the scales, the last one first. -/
theorem piecesS : View.PiecesOf (blockS m c t) (stores10 m c t) := by
  unfold stores10 runAt run
  dsimp only
  sl_unfold_words
  exact ⟨fun x => pieceS m c t 1 (k0_pay9 (scaleAt m c t)) (fun z z' d h => by rw [pay9_apply, scaleAt_apply]) (by decide) x _ rfl rfl,
    fun x => pieceS m c t 0 (k0_pay8 (scaleAt m c t)) (fun z z' d h => by rw [pay8_apply, scaleAt_apply]; simp only [Nat.mul_zero, Nat.zero_add]) (by decide) x _ rfl rfl, trivial⟩

/-- What the stores leave in the block for the query heads, its rows in pairs. -/
theorem leavesQ (y : S5120x2x128.Idx) : View.canon (stores6 m c t) y = blockQ m c t y :=
  View.canon_apply_of_pieces _ _ (piecesQ m c t).mem y (cover6 m c t y)

/-- What the stores leave in the block for the key heads. -/
theorem leavesK (y : S10x256x128.Idx) : View.canon (stores7 m c t) y = blockK m c t y :=
  View.canon_apply_of_pieces _ _ (piecesK m c t).mem y (cover7 m c t y)

/-- What the stores leave in the block for the value heads. -/
theorem leavesV (y : S10x256x128.Idx) : View.canon (stores8 m c t) y = blockV m c t y :=
  View.canon_apply_of_pieces _ _ (piecesV m c t).mem y (cover8 m c t y)

/-- What the stores leave in the block for the scales. -/
theorem leavesS (y : S1x2x128.Idx) : View.canon (stores10 m c t) y = blockS m c t y :=
  View.canon_apply_of_pieces _ _ (piecesS m c t).mem y (cover10 m c t y)

/-- What the one store leaves in the block for the codes. -/
theorem leavesC (r : Fin 256) (k : Fin 5120) : View.canon (stores9 m c t) (ix2 r k) = code (iblk m c 2 t) r k := by
  refine (congrFun (show View.canon (stores9 m c t) = k0_pay6 (k0_pay5 (ldX m c t)) (FloatOps.ofBits .f32 3286237184#32) (FloatOps.ofBits .f32 1138753536#32) from ?_) _).trans ?_
  · unfold stores9 runAt run
    dsimp only
    sl_unfold_words
    exact View.canon_unit_zero (by funext a; fin_cases a <;> rfl) _ _
  · rw [ldX_eq]; exact codes_apply _ r k

end Cert.KernelIdeal.Blocks

end
-- ==== Proof.KernelArrays.lean ====
/- The arrays the kernel's region leaves and the blocks it reads: which entry of an array is which entry of a point's block. -/
module

public import proofs.«01_k».proof.Proof.KernelStores
public import proofs.«01_k».proof.Proof.Gen.KernelIdeal.Points

@[expose] public section

set_option maxRecDepth 16384

noncomputable section

namespace Cert.KernelIdeal.Blocks

open Cert.KernelIdeal.Gen Cert.KernelIdeal.Point Cert.Exponent Idealize.ShloMosaic Idealize.ShloMosaic.TcCoe Idealize.ShloMosaic.Tactic

variable (m : (ℓ : Loc nD τ sig) → Buf (Elt Ideal) ℓ) (c : Dev nD) (t : Fin cfg0.N)

theorem point_lt : t.val < 16 := t.isLt

/-! ## Where a point's blocks lie -/

theorem index0 : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index1 : win0_1.index t 0 = 0 ∧ win0_1.index t 1 = 0 :=
  (by decide +kernel : ∀ t : Fin grid0.N, win0_1.index t 0 = 0 ∧ win0_1.index t 1 = 0) t
theorem index2 : win0_2.index t 0 = t.val ∧ win0_2.index t 1 = 0 :=
  (by decide +kernel : ∀ t : Fin grid0.N, win0_2.index t 0 = t.val ∧ win0_2.index t 1 = 0) t
theorem index3 : win0_3.index t 0 = 0 ∧ win0_3.index t 1 = 0 :=
  (by decide +kernel : ∀ t : Fin grid0.N, win0_3.index t 0 = 0 ∧ win0_3.index t 1 = 0) t
theorem index4 : win0_4.index t 0 = 0 ∧ win0_4.index t 1 = 0 :=
  (by decide +kernel : ∀ t : Fin grid0.N, win0_4.index t 0 = 0 ∧ win0_4.index t 1 = 0) t
theorem index5 : win0_5.index t 0 = 0 ∧ win0_5.index t 1 = 0 :=
  (by decide +kernel : ∀ t : Fin grid0.N, win0_5.index t 0 = 0 ∧ win0_5.index t 1 = 0) t
theorem index6 : win0_6.index t 0 = t.val ∧ win0_6.index t 1 = 0 :=
  (by decide +kernel : ∀ t : Fin grid0.N, win0_6.index t 0 = t.val ∧ win0_6.index t 1 = 0) t
theorem index7 : win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0) t
theorem index8 : win0_8.index t 0 = 0 ∧ win0_8.index t 1 = t.val ∧ win0_8.index t 2 = 0 :=
  (by decide +kernel : ∀ t : Fin grid0.N, win0_8.index t 0 = 0 ∧ win0_8.index t 1 = t.val ∧ win0_8.index t 2 = 0) t
theorem index9 : win0_9.index t 0 = t.val ∧ win0_9.index t 1 = 0 :=
  (by decide +kernel : ∀ t : Fin grid0.N, win0_9.index t 0 = t.val ∧ win0_9.index t 1 = 0) t
theorem index10 : win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0) t

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne
    ((by decide +kernel : ∀ t t' : Fin grid0.N, win0_7.index t = win0_7.index t' → t = t') t t' h)
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne
    ((by decide +kernel : ∀ t t' : Fin grid0.N, win0_8.index t = win0_8.index t' → t = t') t t' h)
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne
    ((by decide +kernel : ∀ t t' : Fin grid0.N, win0_9.index t = win0_9.index t' → t = t') t t' h)
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne
    ((by decide +kernel : ∀ t t' : Fin grid0.N, win0_10.index t = win0_10.index t' → t = t') t t' h)

/-! ## The blocks read -/

theorem place0 (i : Fin 1) (j : Fin 2) (k : Fin 128) : ((cfg0.win 0).blk t).view.emb (ix3 i j k : S1x2x128.Idx) = (ix3 ⟨1 * t.val + i.val, by have := point_lt t; omega⟩ j k : S16x2x128.Idx) := by
  funext a
  fin_cases a
  · have h : ((win0_0.rect t).emb (ix3 i j k : S1x2x128.Idx) 0).val = win0_0.index t 0 * 1 + i.val := win0_0.rect_emb_val t (ix3 i j k : S1x2x128.Idx) 0
    exact Fin.ext (h.trans (show win0_0.index t 0 * 1 + i.val = 1 * t.val + i.val by rw [(index0 t).1]; omega))
  · have h : ((win0_0.rect t).emb (ix3 i j k : S1x2x128.Idx) 1).val = win0_0.index t 1 * 2 + j.val := win0_0.rect_emb_val t (ix3 i j k : S1x2x128.Idx) 1
    exact Fin.ext (h.trans (show win0_0.index t 1 * 2 + j.val = j.val by rw [(index0 t).2.1]; omega))
  · have h : ((win0_0.rect t).emb (ix3 i j k : S1x2x128.Idx) 2).val = win0_0.index t 2 * 128 + k.val := win0_0.rect_emb_val t (ix3 i j k : S1x2x128.Idx) 2
    exact Fin.ext (h.trans (show win0_0.index t 2 * 128 + k.val = k.val by rw [(index0 t).2.2]; omega))
theorem reads0 (i : Fin 1) (j : Fin 2) (k : Fin 128) : iblk m c 0 t (ix3 i j k : S1x2x128.Idx) = V m c main_v10 (ix3 ⟨1 * t.val + i.val, by have := point_lt t; omega⟩ j k : S16x2x128.Idx) :=
  congrArg (V m c main_v10) (place0 t i j k)

theorem place1 (i : Fin 1) (j : Fin 128) : ((cfg0.win 1).blk t).view.emb (ix2 i j : S1x128.Idx) = (ix2 i j : S1x128.Idx) := by
  funext a
  fin_cases a
  · have h : ((win0_1.rect t).emb (ix2 i j : S1x128.Idx) 0).val = win0_1.index t 0 * 1 + i.val := win0_1.rect_emb_val t (ix2 i j : S1x128.Idx) 0
    exact Fin.ext (h.trans (show win0_1.index t 0 * 1 + i.val = i.val by rw [(index1 t).1]; omega))
  · have h : ((win0_1.rect t).emb (ix2 i j : S1x128.Idx) 1).val = win0_1.index t 1 * 128 + j.val := win0_1.rect_emb_val t (ix2 i j : S1x128.Idx) 1
    exact Fin.ext (h.trans (show win0_1.index t 1 * 128 + j.val = j.val by rw [(index1 t).2]; omega))
theorem reads1 (i : Fin 1) (j : Fin 128) : iblk m c 1 t (ix2 i j : S1x128.Idx) = V m c main_v9 (ix2 i j : S1x128.Idx) :=
  congrArg (V m c main_v9) (place1 t i j)

theorem place2 (i : Fin 256) (j : Fin 5120) : ((cfg0.win 2).blk t).view.emb (ix2 i j : S256x5120.Idx) = (ix2 ⟨256 * t.val + i.val, by have := point_lt t; omega⟩ j : S4096x5120.Idx) := by
  funext a
  fin_cases a
  · have h : ((win0_2.rect t).emb (ix2 i j : S256x5120.Idx) 0).val = win0_2.index t 0 * 256 + i.val := win0_2.rect_emb_val t (ix2 i j : S256x5120.Idx) 0
    exact Fin.ext (h.trans (show win0_2.index t 0 * 256 + i.val = 256 * t.val + i.val by rw [(index2 t).1]; omega))
  · have h : ((win0_2.rect t).emb (ix2 i j : S256x5120.Idx) 1).val = win0_2.index t 1 * 5120 + j.val := win0_2.rect_emb_val t (ix2 i j : S256x5120.Idx) 1
    exact Fin.ext (h.trans (show win0_2.index t 1 * 5120 + j.val = j.val by rw [(index2 t).2]; omega))
theorem reads2 (i : Fin 256) (j : Fin 5120) : iblk m c 2 t (ix2 i j : S256x5120.Idx) = V m c main_v11 (ix2 ⟨256 * t.val + i.val, by have := point_lt t; omega⟩ j : S4096x5120.Idx) :=
  congrArg (V m c main_v11) (place2 t i j)

theorem place3 (i : Fin 5120) (j : Fin 7680) : ((cfg0.win 3).blk t).view.emb (ix2 i j : S5120x7680.Idx) = (ix2 i j : S5120x7680.Idx) := by
  funext a
  fin_cases a
  · have h : ((win0_3.rect t).emb (ix2 i j : S5120x7680.Idx) 0).val = win0_3.index t 0 * 5120 + i.val := win0_3.rect_emb_val t (ix2 i j : S5120x7680.Idx) 0
    exact Fin.ext (h.trans (show win0_3.index t 0 * 5120 + i.val = i.val by rw [(index3 t).1]; omega))
  · have h : ((win0_3.rect t).emb (ix2 i j : S5120x7680.Idx) 1).val = win0_3.index t 1 * 7680 + j.val := win0_3.rect_emb_val t (ix2 i j : S5120x7680.Idx) 1
    exact Fin.ext (h.trans (show win0_3.index t 1 * 7680 + j.val = j.val by rw [(index3 t).2]; omega))
theorem reads3 (i : Fin 5120) (j : Fin 7680) : iblk m c 3 t (ix2 i j : S5120x7680.Idx) = V m c main_arg1 (ix2 i j : S5120x7680.Idx) :=
  congrArg (V m c main_arg1) (place3 t i j)

theorem place4 (i : Fin 1) (j : Fin 7680) : ((cfg0.win 4).blk t).view.emb (ix2 i j : S1x7680.Idx) = (ix2 i j : S1x7680.Idx) := by
  funext a
  fin_cases a
  · have h : ((win0_4.rect t).emb (ix2 i j : S1x7680.Idx) 0).val = win0_4.index t 0 * 1 + i.val := win0_4.rect_emb_val t (ix2 i j : S1x7680.Idx) 0
    exact Fin.ext (h.trans (show win0_4.index t 0 * 1 + i.val = i.val by rw [(index4 t).1]; omega))
  · have h : ((win0_4.rect t).emb (ix2 i j : S1x7680.Idx) 1).val = win0_4.index t 1 * 7680 + j.val := win0_4.rect_emb_val t (ix2 i j : S1x7680.Idx) 1
    exact Fin.ext (h.trans (show win0_4.index t 1 * 7680 + j.val = j.val by rw [(index4 t).2]; omega))
theorem reads4 (i : Fin 1) (j : Fin 7680) : iblk m c 4 t (ix2 i j : S1x7680.Idx) = V m c main_v12 (ix2 i j : S1x7680.Idx) :=
  congrArg (V m c main_v12) (place4 t i j)

theorem place5 (i : Fin 1) (j : Fin 7680) : ((cfg0.win 5).blk t).view.emb (ix2 i j : S1x7680.Idx) = (ix2 i j : S1x7680.Idx) := by
  funext a
  fin_cases a
  · have h : ((win0_5.rect t).emb (ix2 i j : S1x7680.Idx) 0).val = win0_5.index t 0 * 1 + i.val := win0_5.rect_emb_val t (ix2 i j : S1x7680.Idx) 0
    exact Fin.ext (h.trans (show win0_5.index t 0 * 1 + i.val = i.val by rw [(index5 t).1]; omega))
  · have h : ((win0_5.rect t).emb (ix2 i j : S1x7680.Idx) 1).val = win0_5.index t 1 * 7680 + j.val := win0_5.rect_emb_val t (ix2 i j : S1x7680.Idx) 1
    exact Fin.ext (h.trans (show win0_5.index t 1 * 7680 + j.val = j.val by rw [(index5 t).2]; omega))
theorem reads5 (i : Fin 1) (j : Fin 7680) : iblk m c 5 t (ix2 i j : S1x7680.Idx) = V m c main_v13 (ix2 i j : S1x7680.Idx) :=
  congrArg (V m c main_v13) (place5 t i j)

/-! ## The arrays written -/

theorem place6 (i : Fin 10240) (j : Fin 128) : ((cfg0.win 6).blk t).view.emb (ix2 i j : S10240x128.Idx) = (ix2 ⟨10240 * t.val + i.val, by have := point_lt t; omega⟩ j : S163840x128.Idx) := by
  funext a
  fin_cases a
  · have h : ((win0_6.rect t).emb (ix2 i j : S10240x128.Idx) 0).val = win0_6.index t 0 * 10240 + i.val := win0_6.rect_emb_val t (ix2 i j : S10240x128.Idx) 0
    exact Fin.ext (h.trans (show win0_6.index t 0 * 10240 + i.val = 10240 * t.val + i.val by rw [(index6 t).1]; omega))
  · have h : ((win0_6.rect t).emb (ix2 i j : S10240x128.Idx) 1).val = win0_6.index t 1 * 128 + j.val := win0_6.rect_emb_val t (ix2 i j : S10240x128.Idx) 1
    exact Fin.ext (h.trans (show win0_6.index t 1 * 128 + j.val = j.val by rw [(index6 t).2]; omega))
theorem array6 (i : Fin 10240) (j : Fin 128) : (dats m 0 c).arrAt 6 cfg0.N (ix2 ⟨10240 * t.val + i.val, by have := point_lt t; omega⟩ j : S163840x128.Idx) = out6 m c t (ix2 i j : S10240x128.Idx) := by
  have h := (dats m 0 c).arrAt_emb_eq_flushed 6 disjoint6 t (flush0_6 t) (ix2 i j : S10240x128.Idx)
  rw [place6 t i j] at h
  refine h.trans ?_
  show (dats m 0 c).after 6 t (ix2 i j : S10240x128.Idx) = _
  rw [after0_6]

theorem place7 (i : Fin 10) (j : Fin 256) (k : Fin 128) : ((cfg0.win 7).blk t).view.emb (ix3 i j k : S10x256x128.Idx) = (ix3 i ⟨256 * t.val + j.val, by have := point_lt t; omega⟩ k : S10x4096x128.Idx) := by
  funext a
  fin_cases a
  · have h : ((win0_7.rect t).emb (ix3 i j k : S10x256x128.Idx) 0).val = win0_7.index t 0 * 10 + i.val := win0_7.rect_emb_val t (ix3 i j k : S10x256x128.Idx) 0
    exact Fin.ext (h.trans (show win0_7.index t 0 * 10 + i.val = i.val by rw [(index7 t).1]; omega))
  · have h : ((win0_7.rect t).emb (ix3 i j k : S10x256x128.Idx) 1).val = win0_7.index t 1 * 256 + j.val := win0_7.rect_emb_val t (ix3 i j k : S10x256x128.Idx) 1
    exact Fin.ext (h.trans (show win0_7.index t 1 * 256 + j.val = 256 * t.val + j.val by rw [(index7 t).2.1]; omega))
  · have h : ((win0_7.rect t).emb (ix3 i j k : S10x256x128.Idx) 2).val = win0_7.index t 2 * 128 + k.val := win0_7.rect_emb_val t (ix3 i j k : S10x256x128.Idx) 2
    exact Fin.ext (h.trans (show win0_7.index t 2 * 128 + k.val = k.val by rw [(index7 t).2.2]; omega))
theorem array7 (i : Fin 10) (j : Fin 256) (k : Fin 128) : (dats m 0 c).arrAt 7 cfg0.N (ix3 i ⟨256 * t.val + j.val, by have := point_lt t; omega⟩ k : S10x4096x128.Idx) = View.canon (stores7 m c t) (ix3 i j k : S10x256x128.Idx) := by
  have h := (dats m 0 c).arrAt_emb_eq_flushed 7 disjoint7 t (flush0_7 t) (ix3 i j k : S10x256x128.Idx)
  rw [place7 t i j k] at h
  refine h.trans ?_
  show (dats m 0 c).after 7 t (ix3 i j k : S10x256x128.Idx) = _
  rw [after0_7]

theorem place8 (i : Fin 10) (j : Fin 256) (k : Fin 128) : ((cfg0.win 8).blk t).view.emb (ix3 i j k : S10x256x128.Idx) = (ix3 i ⟨256 * t.val + j.val, by have := point_lt t; omega⟩ k : S10x4096x128.Idx) := by
  funext a
  fin_cases a
  · have h : ((win0_8.rect t).emb (ix3 i j k : S10x256x128.Idx) 0).val = win0_8.index t 0 * 10 + i.val := win0_8.rect_emb_val t (ix3 i j k : S10x256x128.Idx) 0
    exact Fin.ext (h.trans (show win0_8.index t 0 * 10 + i.val = i.val by rw [(index8 t).1]; omega))
  · have h : ((win0_8.rect t).emb (ix3 i j k : S10x256x128.Idx) 1).val = win0_8.index t 1 * 256 + j.val := win0_8.rect_emb_val t (ix3 i j k : S10x256x128.Idx) 1
    exact Fin.ext (h.trans (show win0_8.index t 1 * 256 + j.val = 256 * t.val + j.val by rw [(index8 t).2.1]; omega))
  · have h : ((win0_8.rect t).emb (ix3 i j k : S10x256x128.Idx) 2).val = win0_8.index t 2 * 128 + k.val := win0_8.rect_emb_val t (ix3 i j k : S10x256x128.Idx) 2
    exact Fin.ext (h.trans (show win0_8.index t 2 * 128 + k.val = k.val by rw [(index8 t).2.2]; omega))
theorem array8 (i : Fin 10) (j : Fin 256) (k : Fin 128) : (dats m 0 c).arrAt 8 cfg0.N (ix3 i ⟨256 * t.val + j.val, by have := point_lt t; omega⟩ k : S10x4096x128.Idx) = View.canon (stores8 m c t) (ix3 i j k : S10x256x128.Idx) := by
  have h := (dats m 0 c).arrAt_emb_eq_flushed 8 disjoint8 t (flush0_8 t) (ix3 i j k : S10x256x128.Idx)
  rw [place8 t i j k] at h
  refine h.trans ?_
  show (dats m 0 c).after 8 t (ix3 i j k : S10x256x128.Idx) = _
  rw [after0_8]

theorem place9 (i : Fin 256) (j : Fin 5120) : ((cfg0.win 9).blk t).view.emb (ix2 i j : S256x5120.Idx) = (ix2 ⟨256 * t.val + i.val, by have := point_lt t; omega⟩ j : S4096x5120.Idx) := by
  funext a
  fin_cases a
  · have h : ((win0_9.rect t).emb (ix2 i j : S256x5120.Idx) 0).val = win0_9.index t 0 * 256 + i.val := win0_9.rect_emb_val t (ix2 i j : S256x5120.Idx) 0
    exact Fin.ext (h.trans (show win0_9.index t 0 * 256 + i.val = 256 * t.val + i.val by rw [(index9 t).1]; omega))
  · have h : ((win0_9.rect t).emb (ix2 i j : S256x5120.Idx) 1).val = win0_9.index t 1 * 5120 + j.val := win0_9.rect_emb_val t (ix2 i j : S256x5120.Idx) 1
    exact Fin.ext (h.trans (show win0_9.index t 1 * 5120 + j.val = j.val by rw [(index9 t).2]; omega))
theorem array9 (i : Fin 256) (j : Fin 5120) : (dats m 0 c).arrAt 9 cfg0.N (ix2 ⟨256 * t.val + i.val, by have := point_lt t; omega⟩ j : S4096x5120.Idx) = View.canon (stores9 m c t) (ix2 i j : S256x5120.Idx) := by
  have h := (dats m 0 c).arrAt_emb_eq_flushed 9 disjoint9 t (flush0_9 t) (ix2 i j : S256x5120.Idx)
  rw [place9 t i j] at h
  refine h.trans ?_
  show (dats m 0 c).after 9 t (ix2 i j : S256x5120.Idx) = _
  rw [after0_9]

theorem place10 (i : Fin 1) (j : Fin 2) (k : Fin 128) : ((cfg0.win 10).blk t).view.emb (ix3 i j k : S1x2x128.Idx) = (ix3 ⟨1 * t.val + i.val, by have := point_lt t; omega⟩ j k : S16x2x128.Idx) := by
  funext a
  fin_cases a
  · have h : ((win0_10.rect t).emb (ix3 i j k : S1x2x128.Idx) 0).val = win0_10.index t 0 * 1 + i.val := win0_10.rect_emb_val t (ix3 i j k : S1x2x128.Idx) 0
    exact Fin.ext (h.trans (show win0_10.index t 0 * 1 + i.val = 1 * t.val + i.val by rw [(index10 t).1]; omega))
  · have h : ((win0_10.rect t).emb (ix3 i j k : S1x2x128.Idx) 1).val = win0_10.index t 1 * 2 + j.val := win0_10.rect_emb_val t (ix3 i j k : S1x2x128.Idx) 1
    exact Fin.ext (h.trans (show win0_10.index t 1 * 2 + j.val = j.val by rw [(index10 t).2.1]; omega))
  · have h : ((win0_10.rect t).emb (ix3 i j k : S1x2x128.Idx) 2).val = win0_10.index t 2 * 128 + k.val := win0_10.rect_emb_val t (ix3 i j k : S1x2x128.Idx) 2
    exact Fin.ext (h.trans (show win0_10.index t 2 * 128 + k.val = k.val by rw [(index10 t).2.2]; omega))
theorem array10 (i : Fin 1) (j : Fin 2) (k : Fin 128) : (dats m 0 c).arrAt 10 cfg0.N (ix3 ⟨1 * t.val + i.val, by have := point_lt t; omega⟩ j k : S16x2x128.Idx) = View.canon (stores10 m c t) (ix3 i j k : S1x2x128.Idx) := by
  have h := (dats m 0 c).arrAt_emb_eq_flushed 10 disjoint10 t (flush0_10 t) (ix3 i j k : S1x2x128.Idx)
  rw [place10 t i j k] at h
  refine h.trans ?_
  show (dats m 0 c).after 10 t (ix3 i j k : S1x2x128.Idx) = _
  rw [after0_10]

end Cert.KernelIdeal.Blocks

end
-- ==== Proof.Spec.lean ====
/- The problem's mathematics, one entry of a result at a time, over the extended reals. The scale of a row and its inverse are
   parameters: the two programs compute them differently. -/
module

public import proofs.«01_k».proof.Proof.Exponent
public import Idealize.ShloMosaic.Lib.Pointwise

@[expose] public section

noncomputable section

namespace Cert.Spec

open Idealize.ShloMosaic

/-- The largest absolute value of a row, over 448. -/
def peak (row : Fin 5120 → EReal) : EReal :=
  Finset.fold max (Ideal.ofBits .f32 0xFF800000#32) (fun k => FloatOps.absf (F := Ideal) (φ := .bf16) (row k)) Finset.univ * Ideal.ofBits .f32 0x3B124925#32

/-- The code of one element of a row: times the inverse of the row's scale, clipped to 448. -/
def code (inv : EReal) (row : Fin 5120 → EReal) (k : Fin 5120) : EReal :=
  min (Ideal.ofBits .f32 0x43E00000#32) (max (Ideal.ofBits .f32 0xC3E00000#32) (row k * inv))

/-- One element of the projection of a row: the product of the codes, times the row's and the column's scale, plus the bias. -/
def proj (sc inv : EReal) (row : Fin 5120 → EReal) (w : Fin 5120 → Fin 7680 → EReal) (ws b : Fin 7680 → EReal) (j : Fin 7680) : EReal :=
  (∑ k, code inv row k * w k j) * sc * ws j + b j

/-- The frequency of a place of a head; the two halves of a head share theirs. -/
def freq (d : ℕ) : EReal :=
  Ideal.pow (Ideal.ofBits .f32 0x49742400#32)
    (Ideal.div (-(Ideal.ofBits .f32 0x40000000#32 * FloatOps.sitofp (F := Ideal) .f32 (BitVec.ofNat 32 d))) (Ideal.ofBits .f32 0x43000000#32))

/-- The angle of a token at position `p` at one place of a head. -/
def angle (p : BitVec 32) (d : Fin 128) : EReal := FloatOps.sitofp (F := Ideal) .f32 p * freq (d.val % 64)

/-- A head rotated by the angles `a`, each half against the other one. -/
def rotated (a : Fin 128 → EReal) (y : Fin 128 → EReal) (d : Fin 128) : EReal :=
  if h : d.val < 64 then y d * Ideal.cos (a d) - y ⟨d.val + 64, by omega⟩ * Ideal.sin (a d)
  else y d * Ideal.cos (a d) + y ⟨d.val - 64, by omega⟩ * Ideal.sin (a d)

/-- The rotation written with a cyclic shift by half a head and the first half of the sines negated. -/
theorem rotated_shift (a : Fin 128 → EReal) (y : Fin 128 → EReal) (d : Fin 128) :
    y d * Ideal.cos (a d) + y ⟨(d.val + 64) % 128, Nat.mod_lt _ (by decide)⟩ * (if d.val < 64 then 0 - Ideal.sin (a d) else Ideal.sin (a d)) = rotated a y d := by
  unfold rotated
  by_cases h : d.val < 64
  · have e : (⟨(d.val + 64) % 128, Nat.mod_lt _ (by decide)⟩ : Fin 128) = ⟨d.val + 64, by omega⟩ := Fin.ext (Nat.mod_eq_of_lt (by omega))
    rw [if_pos h, dif_pos h, e, zero_sub, mul_neg, sub_eq_add_neg]
  · have e : (⟨(d.val + 64) % 128, Nat.mod_lt _ (by decide)⟩ : Fin 128) = ⟨d.val - 64, by omega⟩ := Fin.ext (by show (d.val + 64) % 128 = d.val - 64; omega)
    rw [if_neg h, dif_neg h, e]

/-! ## The five results, from the arguments

The scale of a row and its inverse are functions `sc`, `inv` of the row's peak. -/

section Results

variable (sc inv : EReal → EReal) (x : Fin 4096 → Fin 5120 → EReal) (w : Fin 5120 → Fin 7680 → EReal) (ws b : Fin 7680 → EReal) (p : Fin 4096 → BitVec 32)

/-- The projection. -/
def projOf (n : Fin 4096) (j : Fin 7680) : EReal := proj (sc (peak (x n))) (inv (peak (x n))) (x n) w ws b j

/-- The queries. -/
def qOf (n : Fin 4096) (h : Fin 40) (d : Fin 128) : EReal :=
  rotated (angle (p n)) (fun d => projOf sc inv x w ws b n ⟨128 * h.val + d.val, by omega⟩) d

/-- The keys. -/
def kOf (n : Fin 4096) (h : Fin 10) (d : Fin 128) : EReal :=
  rotated (angle (p n)) (fun d => projOf sc inv x w ws b n ⟨5120 + 128 * h.val + d.val, by omega⟩) d

/-- The values. -/
def vOf (n : Fin 4096) (h : Fin 10) (d : Fin 128) : EReal := projOf sc inv x w ws b n ⟨6400 + 128 * h.val + d.val, by omega⟩

/-- The codes. -/
def codeOf (n : Fin 4096) (k : Fin 5120) : EReal := code (inv (peak (x n))) (x n) k

/-- The rows' scales. -/
def scaleOf (n : Fin 4096) : EReal := sc (peak (x n))

variable {sc inv} {sc' inv' : EReal → EReal} {x}

/-- The projection depends on the scales at the rows' peaks alone. -/
theorem projOf_congr (hs : ∀ n, sc (peak (x n)) = sc' (peak (x n))) (hi : ∀ n, inv (peak (x n)) = inv' (peak (x n))) : projOf sc inv x w ws b = projOf sc' inv' x w ws b := by
  funext n j
  unfold projOf
  rw [hs, hi]

end Results

end Cert.Spec

end
-- ==== Proof.KernelResults.lean ====
/- The kernel's results, entry by entry, as functions of its arguments. -/
module

public import proofs.«01_k».proof.Proof.KernelArrays
public import proofs.«01_k».proof.Proof.Spec

@[expose] public section

set_option maxRecDepth 16384

noncomputable section

namespace Cert.KernelIdeal.Blocks

open Cert.KernelIdeal.Gen Cert.KernelIdeal.Point Cert.Exponent Idealize.ShloMosaic Idealize.ShloMosaic.TcCoe Idealize.ShloMosaic.Tactic Idealize.ShloMosaic.StableHlo Idealize.SL.Sem

variable (m : (ℓ : Loc nD τ sig) → Buf (Elt Ideal) ℓ) (c : Dev nD) (t : Fin cfg0.N)

/-! ## The arguments -/

/-- The rows of the input. -/
abbrev argX (n : Fin 4096) (k : Fin 5120) : EReal := m ((c.tc : Thread nD τ).loc main_arg0) (ix3 0 n k : S1x4096x5120.Idx)
/-- The weights. -/
abbrev argW (k : Fin 5120) (j : Fin 7680) : EReal := m ((c.tc : Thread nD τ).loc main_arg1) (ix2 k j : S5120x7680.Idx)
/-- The columns' scales. -/
abbrev argS (j : Fin 7680) : EReal := m ((c.tc : Thread nD τ).loc main_arg2) (ix1 j : S7680.Idx)
/-- The columns' biases. -/
abbrev argB (j : Fin 7680) : EReal := m ((c.tc : Thread nD τ).loc main_arg3) (ix1 j : S7680.Idx)
/-- The positions. -/
abbrev argP (n : Fin 4096) : BitVec 32 := m ((c.tc : Thread nD τ).loc main_arg4) (ix2 0 n : S1x4096.Idx)

/-! ## What the region finds -/

set_option maxHeartbeats 2000000 in
theorem entry_freq : V m c main_v9 = broadcastInDim S1x128 ![1] bcast_S128_S1x128_1 (concatenate S128 0 [⟨S64, (Host.powf (broadcastInDim S64 ![] bcast_S_S64 (constant S_ .f32 0x49742400#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32))) : FVec Ideal S64 .f32)⟩, ⟨S64, (Host.powf (broadcastInDim S64 ![] bcast_S_S64 (constant S_ .f32 0x49742400#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32))) : FVec Ideal S64 .f32)⟩] concatenates_S64_S64_S128_d0) := by
  show V0 m c (Proc.devRef .tc main_v9) = _
  simp only [V0, hostOps0, TRef.binary, TRef.unary, TRef.nullary, TRef.toBuf, TRef.ofBuf, cast_eq, List.flatten_cons, List.flatten_nil, List.append_nil, List.cons_append, List.nil_append]
  after_results_simp <;> rfl

set_option maxHeartbeats 2000000 in
theorem entry_pos : V m c main_v10 = shapeCast S16x2x128 (m ((c.tc : Thread nD τ).loc main_arg4)) shapeCasts_S1x4096_S16x2x128 := by
  show V0 m c (Proc.devRef .tc main_v10) = _
  simp only [V0, hostOps0, TRef.unary, TRef.toBuf, TRef.ofBuf, cast_eq, List.flatten_cons, List.flatten_nil, List.append_nil, List.cons_append, List.nil_append]
  after_results_simp <;> rfl

set_option maxHeartbeats 2000000 in
theorem entry_x : V m c main_v11 = shapeCast S4096x5120 (m ((c.tc : Thread nD τ).loc main_arg0)) shapeCasts_S1x4096x5120_S4096x5120 := by
  show V0 m c (Proc.devRef .tc main_v11) = _
  simp only [V0, hostOps0, TRef.unary, TRef.toBuf, TRef.ofBuf, cast_eq, List.flatten_cons, List.flatten_nil, List.append_nil, List.cons_append, List.nil_append]
  after_results_simp <;> rfl

set_option maxHeartbeats 2000000 in
theorem entry_s : V m c main_v12 = shapeCast S1x7680 (m ((c.tc : Thread nD τ).loc main_arg2)) shapeCasts_S7680_S1x7680 := by
  show V0 m c (Proc.devRef .tc main_v12) = _
  simp only [V0, hostOps0, TRef.unary, TRef.toBuf, TRef.ofBuf, cast_eq, List.flatten_cons, List.flatten_nil, List.append_nil, List.cons_append, List.nil_append]
  after_results_simp <;> rfl

set_option maxHeartbeats 2000000 in
theorem entry_b : V m c main_v13 = shapeCast S1x7680 (m ((c.tc : Thread nD τ).loc main_arg3)) shapeCasts_S7680_S1x7680 := by
  show V0 m c (Proc.devRef .tc main_v13) = _
  simp only [V0, hostOps0, TRef.unary, TRef.toBuf, TRef.ofBuf, cast_eq, List.flatten_cons, List.flatten_nil, List.append_nil, List.cons_append, List.nil_append]
  after_results_simp <;> rfl

/-! ## Layout changes, read at an entry -/

theorem rows_of (x : Vec Ideal S1x4096x5120 .bf16) (n : Fin 4096) (k : Fin 5120) : shapeCast S4096x5120 x shapeCasts_S1x4096x5120_S4096x5120 (ix2 n k) = x (ix3 0 n k) := by
  pointwise

theorem line_of {e : EltTy} (x : Vec Ideal S7680 e) (z : Fin 1) (j : Fin 7680) : shapeCast S1x7680 x shapeCasts_S7680_S1x7680 (ix2 z j) = x (ix1 j) := by
  pointwise

theorem groups_of (x : Vec Ideal S1x4096 .i32) (i : Fin 16) (u : Fin 2) (d : Fin 128) :
    shapeCast S16x2x128 x shapeCasts_S1x4096_S16x2x128 (ix3 i u d) = x (ix2 0 ⟨256 * i.val + 128 * u.val + d.val, by omega⟩) := by
  pointwise
  refine congrArg (fun n => x (ix2 0 n)) (Fin.ext ?_)
  show i.val * 256 + u.val * 128 + d.val = 256 * i.val + 128 * u.val + d.val
  omega

/-- Row `r` of point `t` is row `256 t + r` of the arrays. -/
abbrev rowAt (r : Fin 256) : Fin 4096 := ⟨256 * t.val + r.val, by have := point_lt t; omega⟩

theorem block_x (r : Fin 256) (k : Fin 5120) : iblk m c 2 t (ix2 r k) = argX m c (rowAt t r) k := by
  rw [reads2, entry_x]
  exact rows_of _ _ _

theorem block_w (k : Fin 5120) (j : Fin 7680) : iblk m c 3 t (ix2 k j) = argW m c k j := by
  rw [reads3]
  exact congrFun (V_main_arg1 m c) _

theorem block_s (z : Fin 1) (j : Fin 7680) : iblk m c 4 t (ix2 z j) = argS m c j := by
  rw [reads4, entry_s]
  exact line_of _ _ _

theorem block_b (z : Fin 1) (j : Fin 7680) : iblk m c 5 t (ix2 z j) = argB m c j := by
  rw [reads5, entry_b]
  exact line_of _ _ _

theorem block_p (z : Fin 1) (u : Fin 2) (d : Fin 128) : iblk m c 0 t (ix3 z u d) = argP m c ⟨256 * t.val + 128 * u.val + d.val, by have := point_lt t; omega⟩ := by
  rw [reads0, entry_pos]
  refine (groups_of _ _ _ _).trans (congrArg (argP m c) (Fin.ext ?_))
  show 256 * (1 * t.val + z.val) + 128 * u.val + d.val = 256 * t.val + 128 * u.val + d.val
  omega

theorem block_f (z : Fin 1) (d : Fin 128) : iblk m c 1 t (ix2 z d) = Spec.freq (d.val % 64) := by
  rw [reads1, entry_freq]
  pointwise [Spec.freq]
  by_cases h : d.val < 64
  · rw [dif_pos h, Nat.mod_eq_of_lt h]
  · rw [dif_neg h, show d.val % 64 = d.val - 64 by omega]

/-! ## A point's rows in terms of the arguments -/

theorem peak_row (r : Fin 256) : peak (iblk m c 2 t) r = Spec.peak (argX m c (rowAt t r)) := by
  unfold peak Spec.peak
  simp only [block_x]

theorem code_row (r : Fin 256) (k : Fin 5120) :
    code (iblk m c 2 t) r k = Spec.code (kernelInverse (Spec.peak (argX m c (rowAt t r)))) (argX m c (rowAt t r)) k := by
  unfold code Spec.code
  rw [peak_row, block_x]

/-- One element of the projection of a row, by the kernel's scale. -/
abbrev kProj (n : Fin 4096) (j : Fin 7680) : EReal := Spec.projOf kernelScale kernelInverse (argX m c) (argW m c) (argS m c) (argB m c) n j

theorem proj_row (r : Fin 256) (j : Fin 7680) : projAt m c t r j = kProj m c (rowAt t r) j := by
  unfold projAt proj kProj Spec.projOf Spec.proj
  rw [peak_row, block_s, block_b]
  simp only [code_row, block_w]

theorem turn_row (r : Fin 256) (d : Fin 128) : turnAt m c t r d = Spec.angle (argP m c (rowAt t r)) d := by
  unfold turnAt turn Spec.angle
  rw [block_p, block_f]
  refine congrArg (fun n => FloatOps.sitofp (F := Ideal) .f32 (argP m c n) * Spec.freq (d.val % 64)) (Fin.ext ?_)
  show 256 * t.val + 128 * (r.val / 128) + r.val % 128 = 256 * t.val + r.val
  omega

theorem rotated_row (r : Fin 256) (o : ℕ) (ho : o + 128 ≤ 7680) (d : Fin 128) :
    rotated (turnAt m c t r) (fun d => projAt m c t r ⟨o + d.val, by omega⟩) d
      = Spec.rotated (Spec.angle (argP m c (rowAt t r))) (fun d => kProj m c (rowAt t r) ⟨o + d.val, by omega⟩) d := by
  rw [show turnAt m c t r = Spec.angle (argP m c (rowAt t r)) from funext fun d => turn_row m c t r d]
  simp only [proj_row]
  unfold rotated
  exact Spec.rotated_shift (Spec.angle (argP m c (rowAt t r))) (fun d => kProj m c (rowAt t r) ⟨o + d.val, by omega⟩) d

/-! ## The arrays the region leaves -/

/-- The point that holds a row. -/
abbrev pointOf (n : Fin 4096) : Fin cfg0.N := (⟨n.val / 256, by omega⟩ : Fin 16)
/-- The row's place in its block. -/
abbrev placeOf (n : Fin 4096) : Fin 256 := ⟨n.val % 256, by omega⟩

theorem rowAt_of (n : Fin 4096) : rowAt (pointOf n) (placeOf n) = n :=
  Fin.ext (by show 256 * (n.val / 256) + n.val % 256 = n.val; omega)

theorem left_codes (n : Fin 4096) (k : Fin 5120) : (dats m 0 c).arrAt 9 cfg0.N (ix2 n k : S4096x5120.Idx) = Spec.code (kernelInverse (Spec.peak (argX m c n))) (argX m c n) k := by
  have h := (array9 m c (pointOf n) (placeOf n) k).trans ((leavesC m c (pointOf n) (placeOf n) k).trans (code_row m c (pointOf n) (placeOf n) k))
  rw [rowAt_of, show (⟨256 * (pointOf n).val + (placeOf n).val, by have := n.isLt; show 256 * (n.val / 256) + n.val % 256 < 4096; omega⟩ : Fin 4096) = n from rowAt_of n] at h
  exact h

theorem left_scale (i : Fin 16) (u : Fin 2) (d : Fin 128) :
    (dats m 0 c).arrAt 10 cfg0.N (ix3 i u d : S16x2x128.Idx) = kernelScale (Spec.peak (argX m c ⟨256 * i.val + 128 * u.val + d.val, by omega⟩)) := by
  have h := (array10 m c (i : Fin 16) 0 u d).trans (leavesS m c (i : Fin 16) (ix3 0 u d))
  have e : (⟨1 * i.val + (0 : Fin 1).val, by show 1 * i.val + 0 < 16; omega⟩ : Fin 16) = i := Fin.ext (by show 1 * i.val + 0 = i.val; omega)
  rw [e] at h
  refine h.trans ((congrArg kernelScale (peak_row m c (i : Fin 16) ⟨128 * u.val + d.val, by omega⟩)).trans ?_)
  refine congrArg (fun n => kernelScale (Spec.peak (argX m c n))) (Fin.ext ?_)
  show 256 * i.val + (128 * u.val + d.val) = 256 * i.val + 128 * u.val + d.val
  omega

theorem left_k (h : Fin 10) (n : Fin 4096) (d : Fin 128) :
    (dats m 0 c).arrAt 7 cfg0.N (ix3 h n d : S10x4096x128.Idx) = Spec.rotated (Spec.angle (argP m c n)) (fun d => kProj m c n ⟨5120 + 128 * h.val + d.val, by omega⟩) d := by
  have e := (array7 m c (pointOf n) h (placeOf n) d).trans ((leavesK m c (pointOf n) (ix3 h (placeOf n) d)).trans
    (rotated_row m c (pointOf n) (placeOf n) (5120 + 128 * h.val) (by omega) d))
  rw [rowAt_of, show (⟨256 * (pointOf n).val + (placeOf n).val, by have := n.isLt; show 256 * (n.val / 256) + n.val % 256 < 4096; omega⟩ : Fin 4096) = n from rowAt_of n] at e
  exact e

theorem left_v (h : Fin 10) (n : Fin 4096) (d : Fin 128) :
    (dats m 0 c).arrAt 8 cfg0.N (ix3 h n d : S10x4096x128.Idx) = kProj m c n ⟨6400 + 128 * h.val + d.val, by omega⟩ := by
  have e := (array8 m c (pointOf n) h (placeOf n) d).trans ((leavesV m c (pointOf n) (ix3 h (placeOf n) d)).trans
    (proj_row m c (pointOf n) (placeOf n) ⟨6400 + 128 * h.val + d.val, by omega⟩))
  rw [rowAt_of, show (⟨256 * (pointOf n).val + (placeOf n).val, by have := n.isLt; show 256 * (n.val / 256) + n.val % 256 < 4096; omega⟩ : Fin 4096) = n from rowAt_of n] at e
  exact e

/-- The rows in pairs, read row by row. -/
theorem pairs_symm (i : Fin 10240) (d : Fin 128) :
    (Shape.reshapeEquiv reshapes_S10240x128_S5120x2x128.1).symm (ix2 i d : S10240x128.Idx) = (ix3 ⟨i.val / 2, by omega⟩ ⟨i.val % 2, by omega⟩ d : S5120x2x128.Idx) := by
  rw [Shape.reshapeEquiv_symm]
  refine Shape.reshapeEquiv_eq_of_rowMajor _ ?_
  rw [Shape.rowMajor_val_three, Shape.rowMajor_val_two]
  show (i.val / 2 * 2 + i.val % 2) * 128 + d.val = i.val * 128 + d.val
  omega

theorem left_q (n : Fin 4096) (h : Fin 40) (d : Fin 128) :
    (dats m 0 c).arrAt 6 cfg0.N (ix2 ⟨40 * n.val + h.val, by omega⟩ d : S163840x128.Idx)
      = Spec.rotated (Spec.angle (argP m c n)) (fun d => kProj m c n ⟨128 * h.val + d.val, by omega⟩) d := by
  have e := array6 m c (pointOf n) ⟨40 * (n.val % 256) + h.val, by omega⟩ d
  have e1 : (⟨10240 * (pointOf n).val + (40 * (n.val % 256) + h.val), by show 10240 * (n.val / 256) + (40 * (n.val % 256) + h.val) < 163840; omega⟩ : Fin 163840) = ⟨40 * n.val + h.val, by omega⟩ :=
    Fin.ext (by show 10240 * (n.val / 256) + (40 * (n.val % 256) + h.val) = 40 * n.val + h.val; omega)
  rw [e1] at e
  refine e.trans ?_
  unfold out6
  rw [pairs_symm, leavesQ]
  have e2 := rotated_row m c (pointOf n) (placeOf n) (128 * h.val) (by omega) d
  rw [rowAt_of] at e2
  refine Eq.trans ?_ e2
  unfold blockQ
  have er : (⟨(40 * (n.val % 256) + h.val) / 2 / 20, by omega⟩ : Fin 256) = placeOf n := Fin.ext (by show (40 * (n.val % 256) + h.val) / 2 / 20 = n.val % 256; omega)
  refine rotated_congr (congrArg (turnAt m c (pointOf n)) er) (funext fun d => ?_) rfl
  refine congr (congrArg (projAt m c (pointOf n)) er) (Fin.ext ?_)
  show 128 * (2 * ((40 * (n.val % 256) + h.val) / 2 % 20) + (40 * (n.val % 256) + h.val) % 2) + d.val = 128 * h.val + d.val
  omega

/-! ## The results -/

/-- What every buffer holds when the region is left. -/
abbrev exitV : Valuation τ sig (Elt Ideal) := Pipeline.withArrays spec0 c (V0 m c) fun w => (dats m 0 c).arrAt w cfg0.N

/-- What a buffer holds at the end. -/
abbrev atEnd (b) := Pipeline.afterTail₀ cfgs (dats m) 0 (V0 m) [hostOps1] c b

theorem exit6 : exitV m c (Proc.devRef .tc main_v14_0) = (dats m 0 c).arrAt 6 cfg0.N := Pipeline.withArrays_arr spec0 launch0.win.arr_inj c (V0 m c) _ 6
theorem exit7 : exitV m c (Proc.devRef .tc main_v14_1) = (dats m 0 c).arrAt 7 cfg0.N := Pipeline.withArrays_arr spec0 launch0.win.arr_inj c (V0 m c) _ 7
theorem exit8 : exitV m c (Proc.devRef .tc main_v14_2) = (dats m 0 c).arrAt 8 cfg0.N := Pipeline.withArrays_arr spec0 launch0.win.arr_inj c (V0 m c) _ 8
theorem exit9 : exitV m c (Proc.devRef .tc main_v14_3) = (dats m 0 c).arrAt 9 cfg0.N := Pipeline.withArrays_arr spec0 launch0.win.arr_inj c (V0 m c) _ 9
theorem exit10 : exitV m c (Proc.devRef .tc main_v14_4) = (dats m 0 c).arrAt 10 cfg0.N := Pipeline.withArrays_arr spec0 launch0.win.arr_inj c (V0 m c) _ 10

section Tail

variable (X : Valuation τ sig (Elt Ideal))

set_option maxHeartbeats 2000000 in
theorem tail_q : StableHlo.after (List.flatten [hostOps1]) X (Proc.devRef .tc main_v15) = shapeCast S1x4096x40x128 (X (Proc.devRef .tc main_v14_0)) shapeCasts_S163840x128_S1x4096x40x128 := by
  simp only [hostOps1, TRef.unary, TRef.toBuf, TRef.ofBuf, cast_eq, List.flatten_cons, List.flatten_nil, List.append_nil, List.cons_append, List.nil_append]
  after_results_simp <;> rfl

set_option maxHeartbeats 2000000 in
theorem tail_k : StableHlo.after (List.flatten [hostOps1]) X (Proc.devRef .tc main_v17)
    = broadcastInDim S1x4096x10x128 ![1, 2, 3] bcast_S4096x10x128_S1x4096x10x128_1_2_3 (transpose S4096x10x128 [1, 0, 2] (X (Proc.devRef .tc main_v14_1)) transposes_S10x4096x128_S4096x10x128_1_0_2) := by
  simp only [hostOps1, TRef.unary, TRef.toBuf, TRef.ofBuf, cast_eq, List.flatten_cons, List.flatten_nil, List.append_nil, List.cons_append, List.nil_append]
  after_results_simp <;> rfl

set_option maxHeartbeats 2000000 in
theorem tail_v : StableHlo.after (List.flatten [hostOps1]) X (Proc.devRef .tc main_v19)
    = broadcastInDim S1x4096x10x128 ![1, 2, 3] bcast_S4096x10x128_S1x4096x10x128_1_2_3 (transpose S4096x10x128 [1, 0, 2] (X (Proc.devRef .tc main_v14_2)) transposes_S10x4096x128_S4096x10x128_1_0_2) := by
  simp only [hostOps1, TRef.unary, TRef.toBuf, TRef.ofBuf, cast_eq, List.flatten_cons, List.flatten_nil, List.append_nil, List.cons_append, List.nil_append]
  after_results_simp <;> rfl

set_option maxHeartbeats 2000000 in
theorem tail_codes : StableHlo.after (List.flatten [hostOps1]) X (Proc.devRef .tc main_v20) = shapeCast S1x4096x5120 (X (Proc.devRef .tc main_v14_3)) shapeCasts_S4096x5120_S1x4096x5120 := by
  simp only [hostOps1, TRef.unary, TRef.toBuf, TRef.ofBuf, cast_eq, List.flatten_cons, List.flatten_nil, List.append_nil, List.cons_append, List.nil_append]
  after_results_simp <;> rfl

set_option maxHeartbeats 2000000 in
theorem tail_scale : StableHlo.after (List.flatten [hostOps1]) X (Proc.devRef .tc main_v21) = shapeCast S1x4096x1 (X (Proc.devRef .tc main_v14_4)) shapeCasts_S16x2x128_S1x4096x1 := by
  simp only [hostOps1, TRef.unary, TRef.toBuf, TRef.ofBuf, cast_eq, List.flatten_cons, List.flatten_nil, List.append_nil, List.cons_append, List.nil_append]
  after_results_simp <;> rfl

end Tail

theorem heads_of (y : Vec Ideal S163840x128 .bf16) (z : Fin 1) (n : Fin 4096) (h : Fin 40) (d : Fin 128) :
    shapeCast S1x4096x40x128 y shapeCasts_S163840x128_S1x4096x40x128 (ix4 z n h d) = y (ix2 ⟨40 * n.val + h.val, by omega⟩ d) := by
  pointwise
  refine congrArg (fun i => y (ix2 i d)) (Fin.ext ?_)
  show n.val * 40 + h.val = 40 * n.val + h.val
  omega

theorem slabs_of (y : Vec Ideal S10x4096x128 .bf16) (z : Fin 1) (n : Fin 4096) (h : Fin 10) (d : Fin 128) :
    broadcastInDim S1x4096x10x128 ![1, 2, 3] bcast_S4096x10x128_S1x4096x10x128_1_2_3 (transpose S4096x10x128 [1, 0, 2] y transposes_S10x4096x128_S4096x10x128_1_0_2) (ix4 z n h d) = y (ix3 h n d) := by
  pointwise

theorem batch_of (y : Vec Ideal S4096x5120 .fp8e4m3) (z : Fin 1) (n : Fin 4096) (k : Fin 5120) :
    shapeCast S1x4096x5120 y shapeCasts_S4096x5120_S1x4096x5120 (ix3 z n k) = y (ix2 n k) := by
  pointwise

theorem column_of (y : Vec Ideal S16x2x128 .f32) (z z' : Fin 1) (n : Fin 4096) :
    shapeCast S1x4096x1 y shapeCasts_S16x2x128_S1x4096x1 (ix3 z n z') = y (ix3 ⟨n.val / 256, by omega⟩ ⟨n.val / 128 % 2, by omega⟩ ⟨n.val % 128, by omega⟩) := by
  pointwise

end Cert.KernelIdeal.Blocks

end
-- ==== Proof.KernelEnd.lean ====
/- The kernel's results as whole arrays, at the end of every run. -/
module

public import proofs.«01_k».proof.Proof.KernelResults

@[expose] public section

set_option maxRecDepth 16384

noncomputable section

namespace Cert.KernelIdeal.Blocks

open Cert.KernelIdeal.Gen Cert.KernelIdeal.Point Cert.Exponent Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

theorem end_q (i : S1x4096x40x128.Idx) :
    atEnd m c main_v15 i = Spec.qOf kernelScale kernelInverse (argX m c) (argW m c) (argS m c) (argB m c) (argP m c) (i 1) (i 2) (i 3) := by
  obtain ⟨z, n, h, d, rfl⟩ : ∃ (z : Fin 1) (n : Fin 4096) (h : Fin 40) (d : Fin 128), i = ix4 z n h d := ⟨i 0, i 1, i 2, i 3, by funext a; fin_cases a <;> rfl⟩
  refine (congrFun ((tail_q (exitV m c)).trans (congrArg (fun y => shapeCast S1x4096x40x128 y shapeCasts_S163840x128_S1x4096x40x128) (exit6 m c))) _).trans ?_
  exact (heads_of _ z n h d).trans (left_q m c n h d)

theorem end_k (i : S1x4096x10x128.Idx) :
    atEnd m c main_v17 i = Spec.kOf kernelScale kernelInverse (argX m c) (argW m c) (argS m c) (argB m c) (argP m c) (i 1) (i 2) (i 3) := by
  obtain ⟨z, n, h, d, rfl⟩ : ∃ (z : Fin 1) (n : Fin 4096) (h : Fin 10) (d : Fin 128), i = ix4 z n h d := ⟨i 0, i 1, i 2, i 3, by funext a; fin_cases a <;> rfl⟩
  refine (congrFun (tail_k (exitV m c)) _).trans ((slabs_of _ z n h d).trans ?_)
  exact (congrFun (exit7 m c) _).trans (left_k m c h n d)

theorem end_v (i : S1x4096x10x128.Idx) :
    atEnd m c main_v19 i = Spec.vOf kernelScale kernelInverse (argX m c) (argW m c) (argS m c) (argB m c) (i 1) (i 2) (i 3) := by
  obtain ⟨z, n, h, d, rfl⟩ : ∃ (z : Fin 1) (n : Fin 4096) (h : Fin 10) (d : Fin 128), i = ix4 z n h d := ⟨i 0, i 1, i 2, i 3, by funext a; fin_cases a <;> rfl⟩
  refine (congrFun (tail_v (exitV m c)) _).trans ((slabs_of _ z n h d).trans ?_)
  exact (congrFun (exit8 m c) _).trans (left_v m c h n d)

theorem end_codes (i : S1x4096x5120.Idx) : atEnd m c main_v20 i = Spec.codeOf kernelInverse (argX m c) (i 1) (i 2) := by
  obtain ⟨z, n, k, rfl⟩ : ∃ (z : Fin 1) (n : Fin 4096) (k : Fin 5120), i = ix3 z n k := ⟨i 0, i 1, i 2, by funext a; fin_cases a <;> rfl⟩
  refine (congrFun (tail_codes (exitV m c)) _).trans ((batch_of _ z n k).trans ?_)
  exact (congrFun (exit9 m c) _).trans (left_codes m c n k)

theorem end_scale (i : S1x4096x1.Idx) : atEnd m c main_v21 i = Spec.scaleOf kernelScale (argX m c) (i 1) := by
  obtain ⟨z, n, z', rfl⟩ : ∃ (z : Fin 1) (n : Fin 4096) (z' : Fin 1), i = ix3 z n z' := ⟨i 0, i 1, i 2, by funext a; fin_cases a <;> rfl⟩
  refine (congrFun (tail_scale (exitV m c)) _).trans ((column_of _ z z' n).trans ((congrFun (exit10 m c) _).trans ((left_scale m c _ _ _).trans ?_)))
  refine congrArg (fun n => kernelScale (Spec.peak (argX m c n))) (Fin.ext ?_)
  show 256 * (n.val / 256) + 128 * (n.val / 128 % 2) + n.val % 128 = n.val
  omega

/-- Every run of the kernel ends with the five results as functions of the arguments, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v15) = (fun i => Spec.qOf kernelScale kernelInverse (argX m c) (argW m c) (argS m c) (argB m c) (argP m c) (i 1) (i 2) (i 3))
      ∧ r.2.mem ((c.tc : Thread nD τ).loc main_v17) = (fun i => Spec.kOf kernelScale kernelInverse (argX m c) (argW m c) (argS m c) (argB m c) (argP m c) (i 1) (i 2) (i 3))
      ∧ r.2.mem ((c.tc : Thread nD τ).loc main_v19) = (fun i => Spec.vOf kernelScale kernelInverse (argX m c) (argW m c) (argS m c) (argB m c) (i 1) (i 2) (i 3))
      ∧ r.2.mem ((c.tc : Thread nD τ).loc main_v20) = (fun i => Spec.codeOf kernelInverse (argX m c) (i 1) (i 2))
      ∧ r.2.mem ((c.tc : Thread nD τ).loc main_v21) = (fun i => Spec.scaleOf kernelScale (argX m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).2 main_v15 (Pipeline.mem_restRefs_of main_v15 (by decide) (by decide))).trans (funext fun i => end_q m c i),
     ((h.1 c).2 main_v17 (Pipeline.mem_restRefs_of main_v17 (by decide) (by decide))).trans (funext fun i => end_k m c i),
     ((h.1 c).2 main_v19 (Pipeline.mem_restRefs_of main_v19 (by decide) (by decide))).trans (funext fun i => end_v m c i),
     ((h.1 c).2 main_v20 (Pipeline.mem_restRefs_of main_v20 (by decide) (by decide))).trans (funext fun i => end_codes m c i),
     ((h.1 c).2 main_v21 (Pipeline.mem_restRefs_of main_v21 (by decide) (by decide))).trans (funext fun i => end_scale m c i),
     h.2 c⟩) (θ_run_and (run_main m ρ) (unchanged m ρ))

end Cert.KernelIdeal.Blocks

end
-- ==== Proof.RefRegion.lean ====
/- What the reference's one region leaves: the codes and the product of the codes with the weights, of the whole arrays at once. -/
module

public import proofs.«01_k».proof.Proof.Gen.ReferenceIdeal.Run
public import proofs.«01_k».proof.Proof.Gen.ReferenceIdeal.Points
public import proofs.«01_k».proof.Proof.Spec

@[expose] public section

set_option maxRecDepth 16384

noncomputable section

namespace Cert.ReferenceIdeal.Whole

open Cert.ReferenceIdeal Cert.ReferenceIdeal.Gen Cert.Exponent Idealize.ShloMosaic Idealize.ShloMosaic.TcCoe Idealize.ShloMosaic.Tactic Idealize.ShloMosaic.StableHlo Idealize.SL.Sem

variable (m : (ℓ : Loc nD τ sig) → Buf (Elt Ideal) ℓ) (c : Dev nD) (t : Fin cfg0.N)

/-- There is one point. -/
theorem one_point (t t' : Fin cfg0.N) : t = t' := Fin.ext (by have h : t.val < 1 := t.isLt; have h' : t'.val < 1 := t'.isLt; omega)

theorem index0 : win0_0.index t 0 = 0 ∧ win0_0.index t 1 = 0 :=
  (by decide +kernel : ∀ t : Fin grid0.N, win0_0.index t 0 = 0 ∧ win0_0.index t 1 = 0) t
theorem index1 : win0_1.index t 0 = 0 ∧ win0_1.index t 1 = 0 :=
  (by decide +kernel : ∀ t : Fin grid0.N, win0_1.index t 0 = 0 ∧ win0_1.index t 1 = 0) t
theorem index2 : win0_2.index t 0 = 0 ∧ win0_2.index t 1 = 0 :=
  (by decide +kernel : ∀ t : Fin grid0.N, win0_2.index t 0 = 0 ∧ win0_2.index t 1 = 0) t
theorem index3 : win0_3.index t 0 = 0 ∧ win0_3.index t 1 = 0 :=
  (by decide +kernel : ∀ t : Fin grid0.N, win0_3.index t 0 = 0 ∧ win0_3.index t 1 = 0) t
theorem index4 : win0_4.index t 0 = 0 ∧ win0_4.index t 1 = 0 :=
  (by decide +kernel : ∀ t : Fin grid0.N, win0_4.index t 0 = 0 ∧ win0_4.index t 1 = 0) t

/-! ## Each window's block is the whole array -/

theorem place0 (x : S4096x5120.Idx) : ((cfg0.win 0).blk t).view.emb x = x := by
  funext a
  fin_cases a
  · exact Fin.ext ((win0_0.rect_emb_val t x 0).trans (show win0_0.index t 0 * 4096 + (x 0).val = (x 0).val by rw [(index0 t).1]; omega))
  · exact Fin.ext ((win0_0.rect_emb_val t x 1).trans (show win0_0.index t 1 * 5120 + (x 1).val = (x 1).val by rw [(index0 t).2]; omega))
theorem read0 (X : (b : Ref sig .tc) → Buf (Elt Ideal) ((c : Thread nD τ).loc b)) : ((cfg0.win 0).blk t).view.read (Elt Ideal) (X (Pipeline.arrRef spec0 0)) = X main_v21 :=
  funext fun x => congrArg (X main_v21) (place0 t x)
theorem block0 : iblk m c 0 t = V m c main_v21 := read0 c t (V m c)

theorem place1 (x : S4096x1.Idx) : ((cfg0.win 1).blk t).view.emb x = x := by
  funext a
  fin_cases a
  · exact Fin.ext ((win0_1.rect_emb_val t x 0).trans (show win0_1.index t 0 * 4096 + (x 0).val = (x 0).val by rw [(index1 t).1]; omega))
  · exact Fin.ext ((win0_1.rect_emb_val t x 1).trans (show win0_1.index t 1 * 1 + (x 1).val = (x 1).val by rw [(index1 t).2]; omega))
theorem read1 (X : (b : Ref sig .tc) → Buf (Elt Ideal) ((c : Thread nD τ).loc b)) : ((cfg0.win 1).blk t).view.read (Elt Ideal) (X (Pipeline.arrRef spec0 1)) = X main_v25 :=
  funext fun x => congrArg (X main_v25) (place1 t x)
theorem block1 : iblk m c 1 t = V m c main_v25 := read1 c t (V m c)

theorem place2 (x : S5120x7680.Idx) : ((cfg0.win 2).blk t).view.emb x = x := by
  funext a
  fin_cases a
  · exact Fin.ext ((win0_2.rect_emb_val t x 0).trans (show win0_2.index t 0 * 5120 + (x 0).val = (x 0).val by rw [(index2 t).1]; omega))
  · exact Fin.ext ((win0_2.rect_emb_val t x 1).trans (show win0_2.index t 1 * 7680 + (x 1).val = (x 1).val by rw [(index2 t).2]; omega))
theorem read2 (X : (b : Ref sig .tc) → Buf (Elt Ideal) ((c : Thread nD τ).loc b)) : ((cfg0.win 2).blk t).view.read (Elt Ideal) (X (Pipeline.arrRef spec0 2)) = X main_arg1 :=
  funext fun x => congrArg (X main_arg1) (place2 t x)
theorem block2 : iblk m c 2 t = V m c main_arg1 := read2 c t (V m c)

theorem place3 (x : S4096x5120.Idx) : ((cfg0.win 3).blk t).view.emb x = x := by
  funext a
  fin_cases a
  · exact Fin.ext ((win0_3.rect_emb_val t x 0).trans (show win0_3.index t 0 * 4096 + (x 0).val = (x 0).val by rw [(index3 t).1]; omega))
  · exact Fin.ext ((win0_3.rect_emb_val t x 1).trans (show win0_3.index t 1 * 5120 + (x 1).val = (x 1).val by rw [(index3 t).2]; omega))
theorem array3 (x : S4096x5120.Idx) : (dats m 0 c).arrAt 3 cfg0.N x = out0_3 (iblk m c 0 t) (iblk m c 1 t) (iblk m c 2 t) x := by
  have h := (dats m 0 c).arrAt_emb_eq_flushed 3 (fun t t' _ _ hne => absurd (one_point t t') hne) t (flush0_3 t) x
  rw [place3 t x] at h
  refine h.trans ?_
  show (dats m 0 c).after 3 t x = _
  rw [after0_3]

theorem place4 (x : S4096x7680.Idx) : ((cfg0.win 4).blk t).view.emb x = x := by
  funext a
  fin_cases a
  · exact Fin.ext ((win0_4.rect_emb_val t x 0).trans (show win0_4.index t 0 * 4096 + (x 0).val = (x 0).val by rw [(index4 t).1]; omega))
  · exact Fin.ext ((win0_4.rect_emb_val t x 1).trans (show win0_4.index t 1 * 7680 + (x 1).val = (x 1).val by rw [(index4 t).2]; omega))
theorem array4 (x : S4096x7680.Idx) : (dats m 0 c).arrAt 4 cfg0.N x = out0_4 (iblk m c 0 t) (iblk m c 1 t) (iblk m c 2 t) x := by
  have h := (dats m 0 c).arrAt_emb_eq_flushed 4 (fun t t' _ _ hne => absurd (one_point t t') hne) t (flush0_4 t) x
  rw [place4 t x] at h
  refine h.trans ?_
  show (dats m 0 c).after 4 t x = _
  rw [after0_4]

/-! ## The body's two stores -/

theorem out0_3_eq (x0 : Vec Ideal S4096x5120 .f32) (x1 : Vec Ideal S4096x1 .f32) (x2 : Vec Ideal S5120x7680 .fp8e4m3) : out0_3 x0 x1 x2 = k0_pay1 x0 x1 := by
  unfold out0_3
  rw [View.ld_unit_zero (by funext a; fin_cases a <;> rfl), View.ld_unit_zero (by funext a; fin_cases a <;> rfl)]
  exact View.canon_unit_zero (by funext a; fin_cases a <;> rfl) _ _

theorem out0_4_eq (x0 : Vec Ideal S4096x5120 .f32) (x1 : Vec Ideal S4096x1 .f32) (x2 : Vec Ideal S5120x7680 .fp8e4m3) : out0_4 x0 x1 x2 = k0_pay2 x0 x1 x2 := by
  unfold out0_4
  rw [View.ld_unit_zero (by funext a; fin_cases a <;> rfl), View.ld_unit_zero (by funext a; fin_cases a <;> rfl), View.ld_unit_zero (by funext a; fin_cases a <;> rfl)]
  exact View.canon_unit_zero (by funext a; fin_cases a <;> rfl) _ _

theorem pay1_apply (x : Vec Ideal S4096x5120 .f32) (v : Vec Ideal S4096x1 .f32) (n : Fin 4096) (k : Fin 5120) :
    k0_pay1 x v (ix2 n k) = Spec.code (v (ix2 n 0)) (fun k => x (ix2 n k)) k := by
  unfold Spec.code
  pointwise [k0_pay1]

theorem pay2_apply (x : Vec Ideal S4096x5120 .f32) (v : Vec Ideal S4096x1 .f32) (w : Vec Ideal S5120x7680 .fp8e4m3) (n : Fin 4096) (j : Fin 7680) :
    k0_pay2 x v w (ix2 n j) = ∑ k : Fin 5120, Spec.code (v (ix2 n 0)) (fun k => x (ix2 n k)) k * w (ix2 k j) := by
  simp only [← pay1_apply]
  unfold k0_pay2
  generalize k0_pay1 x v = y
  pointwise

end Cert.ReferenceIdeal.Whole

end
-- ==== Proof.RefEntry.lean ====
/- What the reference's host operations before its region compute: each row's exponent, scale and inverse scale. -/
module

public import proofs.«01_k».proof.Proof.RefRegion

@[expose] public section

set_option maxRecDepth 16384

noncomputable section

namespace Cert.ReferenceIdeal.Whole

open Cert.ReferenceIdeal Cert.ReferenceIdeal.Gen Cert.Exponent Idealize.ShloMosaic Idealize.ShloMosaic.TcCoe Idealize.ShloMosaic.Tactic Idealize.ShloMosaic.StableHlo Idealize.SL.Sem

/-- The rows' peaks, as the reference computes them. -/
def peaks (x : FVec Ideal S1x4096x5120 .bf16) : FVec Ideal S1x4096x1 .f32 :=
  mulf (broadcastInDim S1x4096x1 ![0, 1] bcast_S1x4096_S1x4096x1_0_1 (Host.reduce FloatOps.maximumf (Host.absf (extf .f32 x bitsLt_bf16_f32)) (constant S_ .f32 0xFF800000#32) reducesTo_S1x4096x5120_S1x4096_d2 h_S_)) (broadcastInDim S1x4096x1 ![] bcast_S_S1x4096x1 (constant S_ .f32 0x3B124925#32))

/-- The exponents of the rows' scales, from the rows' peaks. -/
def exps (p : FVec Ideal S1x4096x1 .f32) : FVec Ideal S1x4096x1 .f32 :=
  select (ori (cmpf .olt p (broadcastInDim S1x4096x1 ![] bcast_S_S1x4096x1 (constant S_ .f32 0x00800000#32))) (cmpf .oeq p (broadcastInDim S1x4096x1 ![] bcast_S_S1x4096x1 (constant S_ .f32 0x7F800000#32)))) (broadcastInDim S1x4096x1 ![] bcast_S_S1x4096x1 (constant S_ .f32 0x00000000#32)) (addf (Host.floor (Host.divf (Host.log p) (broadcastInDim S1x4096x1 ![] bcast_S_S1x4096x1 (Host.log (constant S_ .f32 0x40000000#32))))) (broadcastInDim S1x4096x1 ![] bcast_S_S1x4096x1 (constant S_ .f32 0x3F800000#32)))

/-- The rows' scales. -/
def scales (p : FVec Ideal S1x4096x1 .f32) : FVec Ideal S1x4096x1 .f32 := Host.powf (broadcastInDim S1x4096x1 ![] bcast_S_S1x4096x1 (constant S_ .f32 0x40000000#32)) (exps p)

/-- The rows' inverse scales. -/
def inverses (p : FVec Ideal S1x4096x1 .f32) : FVec Ideal S1x4096x1 .f32 := Host.powf (broadcastInDim S1x4096x1 ![] bcast_S_S1x4096x1 (constant S_ .f32 0x40000000#32)) (Host.negf (exps p))

/-- The input as the region takes it. -/
def rows (x : FVec Ideal S1x4096x5120 .bf16) : FVec Ideal S4096x5120 .f32 := shapeCast S4096x5120 (extf .f32 x bitsLt_bf16_f32) shapeCasts_S1x4096x5120_S4096x5120

/-- The inverse scales as the region takes them. -/
def column (y : FVec Ideal S1x4096x1 .f32) : FVec Ideal S4096x1 .f32 := shapeCast S4096x1 y shapeCasts_S1x4096x1_S4096x1

theorem rows_apply (x : FVec Ideal S1x4096x5120 .bf16) (n : Fin 4096) (k : Fin 5120) : rows x (ix2 n k) = x (ix3 0 n k) := by
  pointwise [rows]

theorem column_apply (y : FVec Ideal S1x4096x1 .f32) (n : Fin 4096) (z : Fin 1) : column y (ix2 n z) = y (ix3 0 n 0) := by
  pointwise [column]

/-- The reference's scale, a function of the row's peak. -/
def refScale (p : EReal) : EReal := Ideal.pow (Ideal.ofBits .f32 0x40000000#32) (refExp p)
/-- The reference's inverse scale, a function of the row's peak. -/
def refInverse (p : EReal) : EReal := Ideal.pow (Ideal.ofBits .f32 0x40000000#32) (-refExp p)

theorem reduces_row : S1x4096x5120.Reduces [2] S1x4096 := by decide

/-- A row's maximum. -/
theorem row_max (y : FVec Ideal S1x4096x5120 .f32) (init : FVec Ideal S_ .f32) (n : Fin 4096) (z : Fin 1) :
    Host.reduce FloatOps.maximumf y init reducesTo_S1x4096x5120_S1x4096_d2 h_S_ (ix2 z n) = Finset.fold max (init (Shape.Idx.first h_S_)) (fun k : Fin 5120 => y (ix3 0 n k)) Finset.univ := by
  refine (Host.reduce_eq_fold_single _ y init reducesTo_S1x4096x5120_S1x4096_d2 reduces_row h_S_ (ix2 z n)).trans ?_
  refine congrArg (fun g => Finset.fold max (init (Shape.Idx.first h_S_)) g Finset.univ) (funext fun k => congrArg y ?_)
  funext a
  refine Fin.ext ((reduces_row.lift_val _ k a).trans ?_)
  unfold Shape.Reduces.liftVal
  fin_cases a
  · show z.val = 0
    omega
  · rfl
  · rfl

/-- A row's peak from its absolute values' maximum. -/
theorem peaks_of (y : FVec Ideal S1x4096 .f32) (n : Fin 4096) (z z' : Fin 1) :
    mulf (broadcastInDim S1x4096x1 ![0, 1] bcast_S1x4096_S1x4096x1_0_1 y) (broadcastInDim S1x4096x1 ![] bcast_S_S1x4096x1 (constant S_ .f32 0x3B124925#32)) (ix3 z n z') = y (ix2 0 n) * Ideal.ofBits .f32 0x3B124925#32 := by
  pointwise

theorem abs_row (x : FVec Ideal S1x4096x5120 .bf16) (n : Fin 4096) (z : Fin 1) :
    Host.reduce FloatOps.maximumf (Host.absf (extf .f32 x bitsLt_bf16_f32)) (constant S_ .f32 0xFF800000#32) reducesTo_S1x4096x5120_S1x4096_d2 h_S_ (ix2 z n)
      = Finset.fold max (Ideal.ofBits .f32 0xFF800000#32) (fun k : Fin 5120 => FloatOps.absf (F := Ideal) (φ := .bf16) (x (ix3 0 n k))) Finset.univ := by
  have e : ∀ k : Fin 5120, (Host.absf (extf .f32 x bitsLt_bf16_f32) : FVec Ideal S1x4096x5120 .f32) (ix3 0 n k) = FloatOps.absf (F := Ideal) (φ := .bf16) (x (ix3 0 n k)) := fun k => rfl
  have e0 : (constant S_ .f32 0xFF800000#32 : FVec Ideal S_ .f32) (Shape.Idx.first h_S_) = Ideal.ofBits .f32 0xFF800000#32 := rfl
  rw [row_max]
  simp only [e, e0]

theorem peaks_apply (x : FVec Ideal S1x4096x5120 .bf16) (n : Fin 4096) (z z' : Fin 1) : peaks x (ix3 z n z') = Spec.peak fun k => x (ix3 0 n k) := by
  unfold peaks Spec.peak
  rw [peaks_of, abs_row]

theorem exps_apply (p : FVec Ideal S1x4096x1 .f32) (n : Fin 4096) (z z' : Fin 1) : exps p (ix3 z n z') = refExp (p (ix3 z n z')) := by
  unfold refExp
  pointwise [exps]

theorem scales_apply (p : FVec Ideal S1x4096x1 .f32) (n : Fin 4096) (z z' : Fin 1) : scales p (ix3 z n z') = refScale (p (ix3 z n z')) := by
  rw [refScale, ← exps_apply]
  unfold scales
  generalize exps p = e
  pointwise

theorem inverses_apply (p : FVec Ideal S1x4096x1 .f32) (n : Fin 4096) (z z' : Fin 1) : inverses p (ix3 z n z') = refInverse (p (ix3 z n z')) := by
  rw [refInverse, ← exps_apply]
  unfold inverses
  generalize exps p = e
  pointwise

variable (m : (ℓ : Loc nD τ sig) → Buf (Elt Ideal) ℓ) (c : Dev nD)

set_option maxHeartbeats 4000000 in
theorem entry_scale : V m c main_v20 = scales (peaks (m ((c.tc : Thread nD τ).loc main_arg0))) := by
  show V0 m c (Proc.devRef .tc main_v20) = _
  unfold scales exps peaks
  simp only [V0, hostOps0, hostOps0_1, hostOps0_2, TRef.ternary, TRef.unary, TRef.toBuf, TRef.ofBuf, cast_eq, List.flatten_cons, List.flatten_nil, List.append_nil, List.cons_append, List.nil_append]
  after_results_simp <;> rfl

set_option maxHeartbeats 4000000 in
theorem entry_x : V m c main_v21 = rows (m ((c.tc : Thread nD τ).loc main_arg0)) := by
  show V0 m c (Proc.devRef .tc main_v21) = _
  simp only [V0, hostOps0, hostOps0_1, hostOps0_2, TRef.ternary, TRef.unary, TRef.toBuf, TRef.ofBuf, cast_eq, List.flatten_cons, List.flatten_nil, List.append_nil, List.cons_append, List.nil_append]
  after_results_simp <;> rfl

set_option maxHeartbeats 4000000 in
theorem entry_inverse : V m c main_v25 = column (inverses (peaks (m ((c.tc : Thread nD τ).loc main_arg0)))) := by
  show V0 m c (Proc.devRef .tc main_v25) = _
  unfold column inverses exps peaks
  simp only [V0, hostOps0, hostOps0_1, hostOps0_2, TRef.ternary, TRef.unary, TRef.toBuf, TRef.ofBuf, cast_eq, List.flatten_cons, List.flatten_nil, List.append_nil, List.cons_append, List.nil_append]
  after_results_simp <;> rfl

end Cert.ReferenceIdeal.Whole

end
-- ==== Proof.RefTail.lean ====
/- What the reference's host operations after its region compute, entry by entry. -/
module

public import proofs.«01_k».proof.Proof.RefEntry

@[expose] public section

set_option maxRecDepth 16384

noncomputable section

namespace Cert.ReferenceIdeal.Whole

open Cert.ReferenceIdeal Cert.ReferenceIdeal.Gen Cert.Exponent Idealize.ShloMosaic Idealize.ShloMosaic.TcCoe Idealize.ShloMosaic.Tactic Idealize.ShloMosaic.StableHlo Idealize.SL.Sem

/-! ## The projection -/

/-- The product scaled by rows and columns, plus the bias. -/
def scaled (acc : FVec Ideal S4096x7680 .f32) (e : FVec Ideal S1x4096x1 .f32) (ws : FVec Ideal S7680 .f32) (b : FVec Ideal S7680 .bf16) : FVec Ideal S1x4096x7680 .f32 :=
  addf (mulf (mulf (shapeCast _ acc shapeCasts_S4096x7680_S1x4096x7680) (broadcastInDim S1x4096x7680 ![0, 1, 2] bcast_S1x4096x1_S1x4096x7680_0_1_2 e)) (broadcastInDim S1x4096x7680 ![0, 1, 2] bcast_S1x1x7680_S1x4096x7680_0_1_2 (broadcastInDim S1x1x7680 ![2] bcast_S7680_S1x1x7680_2 ws))) (broadcastInDim S1x4096x7680 ![0, 1, 2] bcast_S1x1x7680_S1x4096x7680_0_1_2 (broadcastInDim S1x1x7680 ![2] bcast_S7680_S1x1x7680_2 (extf .f32 b bitsLt_bf16_f32)))

theorem scaled_apply (acc e ws b) (z : Fin 1) (n : Fin 4096) (j : Fin 7680) :
    scaled acc e ws b (ix3 z n j) = acc (ix2 n j) * e (ix3 0 n 0) * ws (ix1 j) + b (ix1 j) := by
  pointwise [scaled]

/-- The heads of the queries, of the keys and of the values. -/
def headsQ (y : FVec Ideal S1x4096x7680 .f32) : FVec Ideal S1x4096x40x128 .f32 :=
  shapeCast _ (extractStridedSlice S1x4096x5120 ![0, 0, 0] y slices_S1x4096x7680_S1x4096x5120_0_0_0) shapeCasts_S1x4096x5120_S1x4096x40x128
def headsK (y : FVec Ideal S1x4096x7680 .f32) : FVec Ideal S1x4096x10x128 .f32 :=
  shapeCast _ (extractStridedSlice S1x4096x1280 ![0, 0, 5120] y slices_S1x4096x7680_S1x4096x1280_0_0_5120) shapeCasts_S1x4096x1280_S1x4096x10x128
def headsV (y : FVec Ideal S1x4096x7680 .f32) : FVec Ideal S1x4096x10x128 .bf16 :=
  truncf .bf16 (shapeCast _ (extractStridedSlice S1x4096x1280 ![0, 0, 6400] y slices_S1x4096x7680_S1x4096x1280_0_0_6400) shapeCasts_S1x4096x1280_S1x4096x10x128) bitsLt_bf16_f32

theorem headsQ_apply (y) (z : Fin 1) (n : Fin 4096) (h : Fin 40) (d : Fin 128) : headsQ y (ix4 z n h d) = y (ix3 0 n ⟨128 * h.val + d.val, by omega⟩) := by
  pointwise [headsQ]
  refine congrArg (fun j => y (ix3 0 n j)) (Fin.ext ?_)
  show h.val * 128 + d.val = 128 * h.val + d.val
  omega
theorem headsK_apply (y) (z : Fin 1) (n : Fin 4096) (h : Fin 10) (d : Fin 128) : headsK y (ix4 z n h d) = y (ix3 0 n ⟨5120 + 128 * h.val + d.val, by omega⟩) := by
  pointwise [headsK]
  refine congrArg (fun j => y (ix3 0 n j)) (Fin.ext ?_)
  show 5120 + (h.val * 128 + d.val) = 5120 + 128 * h.val + d.val
  omega
theorem headsV_apply (y) (z : Fin 1) (n : Fin 4096) (h : Fin 10) (d : Fin 128) : headsV y (ix4 z n h d) = y (ix3 0 n ⟨6400 + 128 * h.val + d.val, by omega⟩) := by
  pointwise [headsV]
  refine congrArg (fun j => y (ix3 0 n j)) (Fin.ext ?_)
  show 6400 + (h.val * 128 + d.val) = 6400 + 128 * h.val + d.val
  omega

/-! ## The angles and the rotation -/

/-- The angle of each token at each place of half a head. -/
def angles (p : IVec S1x4096 32) : FVec Ideal S1x4096x64 .f32 :=
  mulf (broadcastInDim S1x4096x64 ![0, 1, 2] bcast_S1x4096x1_S1x4096x64_0_1_2 (broadcastInDim S1x4096x1 ![0, 1] bcast_S1x4096_S1x4096x1_0_1 (sitofp .f32 p))) (broadcastInDim S1x4096x64 ![0, 1, 2] bcast_S1x1x64_S1x4096x64_0_1_2 (broadcastInDim S1x1x64 ![2] bcast_S64_S1x1x64_2 (Host.powf (broadcastInDim S64 ![] bcast_S_S64 (constant S_ .f32 0x49742400#32)) (Host.divf (Host.negf (mulf (broadcastInDim S64 ![] bcast_S_S64 (constant S_ .f32 0x40000000#32)) (sitofp .f32 (iotaInDim S64 32 0)))) (broadcastInDim S64 ![] bcast_S_S64 (constant S_ .f32 0x43000000#32))))))

theorem angles_apply (p : IVec S1x4096 32) (z : Fin 1) (n : Fin 4096) (d : Fin 64) :
    angles p (ix3 z n d) = FloatOps.sitofp (F := Ideal) .f32 (p (ix2 0 n)) * Spec.freq d.val := by
  unfold Spec.freq
  pointwise [angles]

/-- The cosines or the sines, one value for all heads. -/
def shared (y : FVec Ideal S1x4096x64 .f32) : FVec Ideal S1x4096x1x64 .f32 := broadcastInDim S1x4096x1x64 ![0, 1, 3] bcast_S1x4096x64_S1x4096x1x64_0_1_3 y

/-- A head rotated half by half, from the cosines and sines at the places of half a head. -/
theorem halves (y : Fin 128 → EReal) (co si : Fin 64 → EReal) (a : Fin 128 → EReal) (d : Fin 128)
    (hc : ∀ i (h : d.val % 64 = i.val), co i = Ideal.cos (a d)) (hs : ∀ i (h : d.val % 64 = i.val), si i = Ideal.sin (a d)) :
    (if g : d.val < 64 then y d * co ⟨d.val, g⟩ - y ⟨64 + d.val, by omega⟩ * si ⟨d.val, g⟩
      else y ⟨64 + (d.val - 64), by omega⟩ * co ⟨d.val - 64, by omega⟩ + y ⟨d.val - 64, by omega⟩ * si ⟨d.val - 64, by omega⟩) = Spec.rotated a y d := by
  unfold Spec.rotated
  by_cases g : d.val < 64
  · rw [dif_pos g, dif_pos g, hc ⟨d.val, g⟩ (Nat.mod_eq_of_lt g), hs ⟨d.val, g⟩ (Nat.mod_eq_of_lt g)]
    exact congrArg (fun j => y d * Ideal.cos (a d) - y j * Ideal.sin (a d)) (Fin.ext (Nat.add_comm _ _))
  · have e : d.val % 64 = d.val - 64 := by omega
    rw [dif_neg g, dif_neg g, hc ⟨d.val - 64, by omega⟩ e, hs ⟨d.val - 64, by omega⟩ e]
    exact congrArg (fun j => y j * Ideal.cos (a d) + y ⟨d.val - 64, by omega⟩ * Ideal.sin (a d)) (Fin.ext (by show 64 + (d.val - 64) = d.val; omega))

theorem cos_shared (p : IVec S1x4096 32) (n : Fin 4096) (i : Fin 64) (d : Fin 128) (h : d.val % 64 = i.val) : shared (Host.cos (angles p)) (ix4 0 n 0 i) = Ideal.cos (Spec.angle (p (ix2 0 n)) d) := by
  unfold Spec.angle
  rw [h, ← angles_apply p 0]
  generalize angles p = y
  pointwise [shared]

theorem sin_shared (p : IVec S1x4096 32) (n : Fin 4096) (i : Fin 64) (d : Fin 128) (h : d.val % 64 = i.val) : shared (Host.sin (angles p)) (ix4 0 n 0 i) = Ideal.sin (Spec.angle (p (ix2 0 n)) d) := by
  unfold Spec.angle
  rw [h, ← angles_apply p 0]
  generalize angles p = y
  pointwise [shared]

/-- The queries rotated. -/
def turnQ (y : FVec Ideal S1x4096x40x128 .f32) (co si : FVec Ideal S1x4096x1x64 .f32) : FVec Ideal S1x4096x40x128 .bf16 :=
  truncf .bf16 (concatenate S1x4096x40x128 3 [⟨S1x4096x40x64, (subf (mulf (extractStridedSlice S1x4096x40x64 ![0, 0, 0, 0] y slices_S1x4096x40x128_S1x4096x40x64_0_0_0_0) (broadcastInDim S1x4096x40x64 ![0, 1, 2, 3] bcast_S1x4096x1x64_S1x4096x40x64_0_1_2_3 co)) (mulf (extractStridedSlice S1x4096x40x64 ![0, 0, 0, 64] y slices_S1x4096x40x128_S1x4096x40x64_0_0_0_64) (broadcastInDim S1x4096x40x64 ![0, 1, 2, 3] bcast_S1x4096x1x64_S1x4096x40x64_0_1_2_3 si)) : FVec Ideal S1x4096x40x64 .f32)⟩, ⟨S1x4096x40x64, (addf (mulf (extractStridedSlice S1x4096x40x64 ![0, 0, 0, 64] y slices_S1x4096x40x128_S1x4096x40x64_0_0_0_64) (broadcastInDim S1x4096x40x64 ![0, 1, 2, 3] bcast_S1x4096x1x64_S1x4096x40x64_0_1_2_3 co)) (mulf (extractStridedSlice S1x4096x40x64 ![0, 0, 0, 0] y slices_S1x4096x40x128_S1x4096x40x64_0_0_0_0) (broadcastInDim S1x4096x40x64 ![0, 1, 2, 3] bcast_S1x4096x1x64_S1x4096x40x64_0_1_2_3 si)) : FVec Ideal S1x4096x40x64 .f32)⟩] concatenates_S1x4096x40x64_S1x4096x40x64_S1x4096x40x128_d3) bitsLt_bf16_f32

theorem turnQ_half (y co si) (z : Fin 1) (n : Fin 4096) (h : Fin 40) (d : Fin 128) :
    turnQ y co si (ix4 z n h d)
      = if g : d.val < 64 then y (ix4 0 n h d) * co (ix4 0 n 0 ⟨d.val, g⟩) - y (ix4 0 n h ⟨64 + d.val, by omega⟩) * si (ix4 0 n 0 ⟨d.val, g⟩)
        else y (ix4 0 n h ⟨64 + (d.val - 64), by omega⟩) * co (ix4 0 n 0 ⟨d.val - 64, by omega⟩) + y (ix4 0 n h ⟨d.val - 64, by omega⟩) * si (ix4 0 n 0 ⟨d.val - 64, by omega⟩) := by
  pointwise [turnQ]

theorem turnQ_apply (y) (p : IVec S1x4096 32) (z : Fin 1) (n : Fin 4096) (h : Fin 40) (d : Fin 128) :
    turnQ y (shared (Host.cos (angles p))) (shared (Host.sin (angles p))) (ix4 z n h d) = Spec.rotated (Spec.angle (p (ix2 0 n))) (fun d => y (ix4 0 n h d)) d :=
  (turnQ_half y _ _ z n h d).trans
    (halves (fun d => y (ix4 0 n h d)) (fun i => shared (Host.cos (angles p)) (ix4 0 n 0 i)) (fun i => shared (Host.sin (angles p)) (ix4 0 n 0 i)) _ d
      (fun i e => cos_shared p n i d e) (fun i e => sin_shared p n i d e))

/-- The keys rotated. -/
def turnK (y : FVec Ideal S1x4096x10x128 .f32) (co si : FVec Ideal S1x4096x1x64 .f32) : FVec Ideal S1x4096x10x128 .bf16 :=
  truncf .bf16 (concatenate S1x4096x10x128 3 [⟨S1x4096x10x64, (subf (mulf (extractStridedSlice S1x4096x10x64 ![0, 0, 0, 0] y slices_S1x4096x10x128_S1x4096x10x64_0_0_0_0) (broadcastInDim S1x4096x10x64 ![0, 1, 2, 3] bcast_S1x4096x1x64_S1x4096x10x64_0_1_2_3 co)) (mulf (extractStridedSlice S1x4096x10x64 ![0, 0, 0, 64] y slices_S1x4096x10x128_S1x4096x10x64_0_0_0_64) (broadcastInDim S1x4096x10x64 ![0, 1, 2, 3] bcast_S1x4096x1x64_S1x4096x10x64_0_1_2_3 si)) : FVec Ideal S1x4096x10x64 .f32)⟩, ⟨S1x4096x10x64, (addf (mulf (extractStridedSlice S1x4096x10x64 ![0, 0, 0, 64] y slices_S1x4096x10x128_S1x4096x10x64_0_0_0_64) (broadcastInDim S1x4096x10x64 ![0, 1, 2, 3] bcast_S1x4096x1x64_S1x4096x10x64_0_1_2_3 co)) (mulf (extractStridedSlice S1x4096x10x64 ![0, 0, 0, 0] y slices_S1x4096x10x128_S1x4096x10x64_0_0_0_0) (broadcastInDim S1x4096x10x64 ![0, 1, 2, 3] bcast_S1x4096x1x64_S1x4096x10x64_0_1_2_3 si)) : FVec Ideal S1x4096x10x64 .f32)⟩] concatenates_S1x4096x10x64_S1x4096x10x64_S1x4096x10x128_d3) bitsLt_bf16_f32

theorem turnK_half (y co si) (z : Fin 1) (n : Fin 4096) (h : Fin 10) (d : Fin 128) :
    turnK y co si (ix4 z n h d)
      = if g : d.val < 64 then y (ix4 0 n h d) * co (ix4 0 n 0 ⟨d.val, g⟩) - y (ix4 0 n h ⟨64 + d.val, by omega⟩) * si (ix4 0 n 0 ⟨d.val, g⟩)
        else y (ix4 0 n h ⟨64 + (d.val - 64), by omega⟩) * co (ix4 0 n 0 ⟨d.val - 64, by omega⟩) + y (ix4 0 n h ⟨d.val - 64, by omega⟩) * si (ix4 0 n 0 ⟨d.val - 64, by omega⟩) := by
  pointwise [turnK]

theorem turnK_apply (y) (p : IVec S1x4096 32) (z : Fin 1) (n : Fin 4096) (h : Fin 10) (d : Fin 128) :
    turnK y (shared (Host.cos (angles p))) (shared (Host.sin (angles p))) (ix4 z n h d) = Spec.rotated (Spec.angle (p (ix2 0 n))) (fun d => y (ix4 0 n h d)) d :=
  (turnK_half y _ _ z n h d).trans
    (halves (fun d => y (ix4 0 n h d)) (fun i => shared (Host.cos (angles p)) (ix4 0 n 0 i)) (fun i => shared (Host.sin (angles p)) (ix4 0 n 0 i)) _ d
      (fun i e => cos_shared p n i d e) (fun i e => sin_shared p n i d e))

end Cert.ReferenceIdeal.Whole

end
-- ==== Proof.RefResults.lean ====
/- The reference's results as whole arrays, at the end of every run. -/
module

public import proofs.«01_k».proof.Proof.RefTail

@[expose] public section

set_option maxRecDepth 16384

noncomputable section

namespace Cert.ReferenceIdeal.Whole

open Cert.ReferenceIdeal Cert.ReferenceIdeal.Gen Cert.ReferenceIdeal.Value Cert.Exponent Idealize.ShloMosaic Idealize.ShloMosaic.TcCoe Idealize.ShloMosaic.Tactic Idealize.ShloMosaic.StableHlo Idealize.SL.Sem

variable (m : (ℓ : Loc nD τ sig) → Buf (Elt Ideal) ℓ) (c : Dev nD)

/-! ## The arguments -/

/-- The rows of the input. -/
abbrev argX (n : Fin 4096) (k : Fin 5120) : EReal := m ((c.tc : Thread nD τ).loc main_arg0) (ix3 0 n k : S1x4096x5120.Idx)
/-- The weights. -/
abbrev argW (k : Fin 5120) (j : Fin 7680) : EReal := m ((c.tc : Thread nD τ).loc main_arg1) (ix2 k j : S5120x7680.Idx)
/-- The columns' scales. -/
abbrev argS (j : Fin 7680) : EReal := m ((c.tc : Thread nD τ).loc main_arg2) (ix1 j : S7680.Idx)
/-- The columns' biases. -/
abbrev argB (j : Fin 7680) : EReal := m ((c.tc : Thread nD τ).loc main_arg3) (ix1 j : S7680.Idx)
/-- The positions. -/
abbrev argP (n : Fin 4096) : BitVec 32 := m ((c.tc : Thread nD τ).loc main_arg4) (ix2 0 n : S1x4096.Idx)

/-! ## What the region leaves -/

/-- The region's one point. -/
abbrev point : Fin cfg0.N := (0 : Fin 1)

theorem inverse_entry (n : Fin 4096) : V m c main_v25 (ix2 n 0 : S4096x1.Idx) = refInverse (Spec.peak (argX m c n)) := by
  rw [entry_inverse, column_apply, inverses_apply, peaks_apply]

theorem x_entry (n : Fin 4096) (k : Fin 5120) : V m c main_v21 (ix2 n k : S4096x5120.Idx) = argX m c n k := by
  rw [entry_x, rows_apply]

theorem left_codes (n : Fin 4096) (k : Fin 5120) : reg_main_v26_0 m c (ix2 n k : S4096x5120.Idx) = Spec.codeOf refInverse (argX m c) n k := by
  refine (array3 m c point (ix2 n k)).trans ?_
  rw [out0_3_eq, block0, block1]
  refine (pay1_apply _ _ n k).trans ?_
  rw [inverse_entry]
  exact congrArg (fun row => Spec.code (refInverse (Spec.peak (argX m c n))) row k) (funext fun k => x_entry m c n k)

theorem left_acc (n : Fin 4096) (j : Fin 7680) :
    reg_main_v26_1 m c (ix2 n j : S4096x7680.Idx) = ∑ k : Fin 5120, Spec.codeOf refInverse (argX m c) n k * argW m c k j := by
  refine (array4 m c point (ix2 n j)).trans ?_
  rw [out0_4_eq, block0, block1, block2]
  refine (pay2_apply _ _ _ n j).trans ?_
  rw [inverse_entry, V_main_arg1]
  exact congrArg (fun row => ∑ k : Fin 5120, Spec.code (refInverse (Spec.peak (argX m c n))) row k * argW m c k j) (funext fun k => x_entry m c n k)

theorem exit_scale (n : Fin 4096) (z z' : Fin 1) : exitV m c (Proc.devRef .tc main_v20) (ix3 z n z' : S1x4096x1.Idx) = refScale (Spec.peak (argX m c n)) := by
  have h : exitV m c (Proc.devRef .tc main_v20) = V m c main_v20 :=
    Pipeline.withArrays_of_ne _ c (Gen.V0 m c) _ main_v20 (by exact (by decide : ∀ w, Pipeline.arrRef spec0 w ≠ main_v20))
  rw [h, entry_scale, scales_apply, peaks_apply]

/-! ## The results -/

/-- The projection, as the host operations find it. -/
abbrev projected : FVec Ideal S1x4096x7680 .f32 := res_main_v37 (exitV m c)

theorem projected_apply (z : Fin 1) (n : Fin 4096) (j : Fin 7680) :
    projected m c (ix3 z n j) = Spec.projOf refScale refInverse (argX m c) (argW m c) (argS m c) (argB m c) n j := by
  refine (scaled_apply (exitV m c (Proc.devRef .tc main_v26_1)) (exitV m c (Proc.devRef .tc main_v20)) (exitV m c (Proc.devRef .tc main_arg2)) (exitV m c (Proc.devRef .tc main_arg3)) z n j).trans ?_
  rw [exit_scale, exit_main_v26_1, exit_main_arg2, exit_main_arg3, left_acc]
  rfl

theorem end_q (i : S1x4096x40x128.Idx) :
    turnQ (headsQ (projected m c)) (shared (Host.cos (angles (exitV m c (Proc.devRef .tc main_arg4))))) (shared (Host.sin (angles (exitV m c (Proc.devRef .tc main_arg4))))) i
      = Spec.qOf refScale refInverse (argX m c) (argW m c) (argS m c) (argB m c) (argP m c) (i 1) (i 2) (i 3) := by
  obtain ⟨z, n, h, d, rfl⟩ : ∃ (z : Fin 1) (n : Fin 4096) (h : Fin 40) (d : Fin 128), i = ix4 z n h d := ⟨i 0, i 1, i 2, i 3, by funext a; fin_cases a <;> rfl⟩
  rw [turnQ_apply, exit_main_arg4]
  simp only [headsQ_apply, projected_apply]
  rfl

theorem end_k (i : S1x4096x10x128.Idx) :
    turnK (headsK (projected m c)) (shared (Host.cos (angles (exitV m c (Proc.devRef .tc main_arg4))))) (shared (Host.sin (angles (exitV m c (Proc.devRef .tc main_arg4))))) i
      = Spec.kOf refScale refInverse (argX m c) (argW m c) (argS m c) (argB m c) (argP m c) (i 1) (i 2) (i 3) := by
  obtain ⟨z, n, h, d, rfl⟩ : ∃ (z : Fin 1) (n : Fin 4096) (h : Fin 10) (d : Fin 128), i = ix4 z n h d := ⟨i 0, i 1, i 2, i 3, by funext a; fin_cases a <;> rfl⟩
  rw [turnK_apply, exit_main_arg4]
  simp only [headsK_apply, projected_apply]
  rfl

theorem end_v (i : S1x4096x10x128.Idx) : headsV (projected m c) i = Spec.vOf refScale refInverse (argX m c) (argW m c) (argS m c) (argB m c) (i 1) (i 2) (i 3) := by
  obtain ⟨z, n, h, d, rfl⟩ : ∃ (z : Fin 1) (n : Fin 4096) (h : Fin 10) (d : Fin 128), i = ix4 z n h d := ⟨i 0, i 1, i 2, i 3, by funext a; fin_cases a <;> rfl⟩
  rw [headsV_apply, projected_apply]
  rfl

theorem batch_of (y : Vec Ideal S4096x5120 .fp8e4m3) (z : Fin 1) (n : Fin 4096) (k : Fin 5120) :
    shapeCast S1x4096x5120 y shapeCasts_S4096x5120_S1x4096x5120 (ix3 z n k) = y (ix2 n k) := by
  pointwise

theorem end_codes (i : S1x4096x5120.Idx) :
    shapeCast S1x4096x5120 (exitV m c (Proc.devRef .tc main_v26_0) : Vec Ideal S4096x5120 .fp8e4m3) shapeCasts_S4096x5120_S1x4096x5120 i = Spec.codeOf refInverse (argX m c) (i 1) (i 2) := by
  obtain ⟨z, n, k, rfl⟩ : ∃ (z : Fin 1) (n : Fin 4096) (k : Fin 5120), i = ix3 z n k := ⟨i 0, i 1, i 2, by funext a; fin_cases a <;> rfl⟩
  refine (batch_of _ z n k).trans ?_
  rw [exit_main_v26_0, left_codes]
  rfl

theorem end_scale (i : S1x4096x1.Idx) : scales (peaks (m ((c.tc : Thread nD τ).loc main_arg0))) i = Spec.scaleOf refScale (argX m c) (i 1) := by
  obtain ⟨z, n, z', rfl⟩ : ∃ (z : Fin 1) (n : Fin 4096) (z' : Fin 1), i = ix3 z n z' := ⟨i 0, i 1, i 2, by funext a; fin_cases a <;> rfl⟩
  rw [scales_apply, peaks_apply]
  rfl

/-- Every run of the reference ends with the five results as functions of the arguments, and the arguments as they were. -/
theorem results (ρ : Dev nD → PrngReg) : θ_run defs (onTc (τ := τ) (main (F := Ideal))) ⟨m, fun _ => 0, ρ⟩ (fun r => ∀ c : Dev nD,
      r.2.mem ((c.tc : Thread nD τ).loc main_v75) = (fun i => Spec.qOf refScale refInverse (argX m c) (argW m c) (argS m c) (argB m c) (argP m c) (i 1) (i 2) (i 3))
      ∧ r.2.mem ((c.tc : Thread nD τ).loc main_v89) = (fun i => Spec.kOf refScale refInverse (argX m c) (argW m c) (argS m c) (argB m c) (argP m c) (i 1) (i 2) (i 3))
      ∧ r.2.mem ((c.tc : Thread nD τ).loc main_v90) = (fun i => Spec.vOf refScale refInverse (argX m c) (argW m c) (argS m c) (argB m c) (i 1) (i 2) (i 3))
      ∧ r.2.mem ((c.tc : Thread nD τ).loc main_v27) = (fun i => Spec.codeOf refInverse (argX m c) (i 1) (i 2))
      ∧ r.2.mem ((c.tc : Thread nD τ).loc main_v20) = (fun i => Spec.scaleOf refScale (argX m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).1.trans (funext fun i => end_q m c i), (h c).2.1.trans (funext fun i => end_k m c i), (h c).2.2.1.trans (funext fun i => end_v m c i),
     (h c).2.2.2.1.trans (funext fun i => end_codes m c i), (h c).2.2.2.2.1.trans (funext fun i => end_scale m c i), (h c).2.2.2.2.2⟩) (Value.run m ρ)

end Cert.ReferenceIdeal.Whole

end
-- ==== Proof.Precondition.lean ====
/- What the precondition says of one element of the input, and what it gives of a row's peak. -/
module

public import proofs.«01_k».proof.Pre_bf16_values
public import proofs.«01_k».proof.Proof.Spec
public import Idealize.ShloMosaic.Lib.ReduceAll

@[expose] public section

noncomputable section

namespace Cert.Spec

open Idealize.ShloMosaic Cert.Exponent

section Elements

variable [Cert.Pre_bf16_values.Facts]

open Cert.Pre_bf16_values in
/-- Every element's absolute value is at most the largest finite number of its type, or infinite. -/
theorem element_of (x : FVec Ideal S1x4096x5120 .bf16) (w ws b p) (h : Cert.Pre_bf16_values.fn (F := Ideal) x w ws b p = fun _ => 1#1) (i : S1x4096x5120.Idx) :
    FloatOps.absf (F := Ideal) (φ := .bf16) (x i) ≤ Ideal.ofBits .bf16 0x7F7F#16 ∨ FloatOps.absf (F := Ideal) (φ := .bf16) (x i) = Ideal.ofBits .bf16 0x7F80#16 := by
  have e := congrFun h (fun k => k.elim0)
  unfold Cert.Pre_bf16_values.fn at e
  have h0 := Host.reduce_andi_all _ _ Facts.reducesTo_S1x4096x5120_S_d0_1_2 Facts.h_S_ (fun k => k.elim0) e i
  have h1 : IntOp.ori (Ideal.cmp .ole (FloatOps.absf (F := Ideal) (φ := .bf16) (x i)) (Ideal.ofBits .bf16 0x7F7F#16)) (Ideal.cmp .oeq (FloatOps.absf (F := Ideal) (φ := .bf16) (x i)) (Ideal.ofBits .bf16 0x7F80#16)) = 1#1 := h0
  by_contra hn
  rw [not_or] at hn
  simp only [Ideal.cmp, decide_eq_false hn.1, decide_eq_false hn.2] at h1
  exact absurd h1 (by decide)

end Elements

theorem ofBits_largest : Ideal.ofBits .bf16 0x7F7F#16 < (((2 : ℝ) ^ (128 : ℤ) : ℝ) : EReal) := by
  have h : Ideal.ofBits .bf16 0x7F7F#16 = ((255 * 2 ^ (120 : ℤ) : ℝ) : EReal) := by
    simp [Ideal.ofBits, Ideal.ieee]
  rw [h, EReal.coe_lt_coe_iff]
  norm_num

theorem ofBits_infinite : Ideal.ofBits .bf16 0x7F80#16 = ⊤ := by simp [Ideal.ofBits, Ideal.ieee]

/-- The factor a row's largest absolute value is scaled by: positive, below a quarter. -/
theorem ofBits_factor : ∃ r : ℝ, Ideal.ofBits .f32 0x3B124925#32 = (r : EReal) ∧ 0 < r ∧ r < 2 ^ (-2 : ℤ) := by
  refine ⟨9586981 * 2 ^ (-32 : ℤ), ?_, by positivity, by norm_num⟩
  simp [Ideal.ofBits, Ideal.ieee]

/-- An absolute value is not negative. -/
theorem absf_nonneg (x : EReal) : 0 ≤ FloatOps.absf (F := Ideal) (φ := .bf16) x := by
  show 0 ≤ max x (-x)
  rcases le_total 0 x with h | h
  · exact le_max_of_le_left h
  · exact le_max_of_le_right (EReal.neg_nonneg.mpr h)

/-- A row of such elements has a peak in reach of the kernel's scale. -/
theorem peak_range (row : Fin 5120 → EReal)
    (h : ∀ k, FloatOps.absf (F := Ideal) (φ := .bf16) (row k) ≤ Ideal.ofBits .bf16 0x7F7F#16 ∨ FloatOps.absf (F := Ideal) (φ := .bf16) (row k) = Ideal.ofBits .bf16 0x7F80#16) :
    0 ≤ peak row ∧ (peak row < (((2 : ℝ) ^ (126 : ℤ) : ℝ) : EReal) ∨ peak row = ⊤) := by
  obtain ⟨r, hr, r0, r1⟩ := ofBits_factor
  unfold peak
  rw [hr, ofBits_least]
  generalize ha : Finset.fold max ⊥ (fun k => FloatOps.absf (F := Ideal) (φ := .bf16) (row k)) Finset.univ = a
  have ge (k : Fin 5120) : FloatOps.absf (F := Ideal) (φ := .bf16) (row k) ≤ a := by
    rw [← ha, Finset.le_fold_max]
    exact .inr ⟨k, Finset.mem_univ k, le_rfl⟩
  have a0 : 0 ≤ a := (absf_nonneg _).trans (ge 0)
  have a1 : a < (((2 : ℝ) ^ (128 : ℤ) : ℝ) : EReal) ∨ a = ⊤ := by
    by_cases hk : ∃ k, FloatOps.absf (F := Ideal) (φ := .bf16) (row k) = Ideal.ofBits .bf16 0x7F80#16
    · obtain ⟨k, hk⟩ := hk
      rw [ofBits_infinite] at hk
      exact .inr (top_le_iff.mp (hk ▸ ge k))
    · refine .inl (lt_of_le_of_lt ?_ ofBits_largest)
      rw [← ha, Finset.fold_max_le]
      exact ⟨bot_le, fun k _ => (h k).resolve_right fun e => hk ⟨k, e⟩⟩
  refine ⟨mul_nonneg a0 (EReal.coe_nonneg.mpr r0.le), ?_⟩
  rcases a1 with a1 | a1
  · left
    lift a to ℝ using ⟨ne_top_of_lt a1, ne_bot_of_le_ne_bot EReal.zero_ne_bot a0⟩
    rw [EReal.coe_lt_coe_iff] at a1
    rw [← EReal.coe_mul, EReal.coe_lt_coe_iff]
    calc a * r < 2 ^ (128 : ℤ) * 2 ^ (-2 : ℤ) := mul_lt_mul_of_pos' a1 r1 r0 (by positivity)
      _ = 2 ^ (126 : ℤ) := by norm_num
  · right
    rw [a1, EReal.top_mul_coe_of_pos r0]

end Cert.Spec

end
-- ==== Proof.Equal.lean ====
/- The kernel's results and the reference's are the same functions of the arguments, under the precondition. -/
module

public import proofs.«01_k».proof.Defs
public import proofs.«01_k».proof.Proof.KernelEnd
public import proofs.«01_k».proof.Proof.RefResults
public import proofs.«01_k».proof.Proof.Precondition

@[expose] public section

set_option maxRecDepth 16384

noncomputable section

namespace Cert.Equal

open Idealize.ShloMosaic Idealize.ShloMosaic.TcCoe Idealize.SL.Sem Cert.Exponent
open Cert.ReferenceIdeal.Whole (refScale refInverse)

/-! ## The two ways to write a row's scale -/

section Results

variable {x : Fin 4096 → Fin 5120 → EReal} (w : Fin 5120 → Fin 7680 → EReal) (ws b : Fin 7680 → EReal) (p : Fin 4096 → BitVec 32)
  (hs : ∀ n, kernelScale (Spec.peak (x n)) = refScale (Spec.peak (x n))) (hi : ∀ n, kernelInverse (Spec.peak (x n)) = refInverse (Spec.peak (x n)))

include hs hi

theorem q_eq : Spec.qOf kernelScale kernelInverse x w ws b p = Spec.qOf refScale refInverse x w ws b p := by
  unfold Spec.qOf
  rw [Spec.projOf_congr w ws b hs hi]

theorem k_eq : Spec.kOf kernelScale kernelInverse x w ws b p = Spec.kOf refScale refInverse x w ws b p := by
  unfold Spec.kOf
  rw [Spec.projOf_congr w ws b hs hi]

theorem v_eq : Spec.vOf kernelScale kernelInverse x w ws b = Spec.vOf refScale refInverse x w ws b := by
  unfold Spec.vOf
  rw [Spec.projOf_congr w ws b hs hi]

omit hs in
theorem code_eq : Spec.codeOf kernelInverse x = Spec.codeOf refInverse x := by
  funext n k
  unfold Spec.codeOf
  rw [hi]

omit hi in
theorem scale_eq : Spec.scaleOf kernelScale x = Spec.scaleOf refScale x := by
  funext n
  exact hs n

end Results

/-! ## The claim -/

variable [Cert.Pre_bf16_values.Facts]

/-- Under the precondition the kernel's scale of a row and its inverse are the reference's. -/
theorem scales (m : (ℓ : Loc Cert.KernelIdeal.nD Cert.KernelIdeal.τ Cert.KernelIdeal.sig) → Buf (Elt Ideal) ℓ) (hp : Cert.Pre_KernelIdeal_bf16_values m)
    (c : Dev Cert.KernelIdeal.nD) (n : Fin 4096) :
    kernelScale (Spec.peak (Cert.KernelIdeal.Blocks.argX m c n)) = refScale (Spec.peak (Cert.KernelIdeal.Blocks.argX m c n))
    ∧ kernelInverse (Spec.peak (Cert.KernelIdeal.Blocks.argX m c n)) = refInverse (Spec.peak (Cert.KernelIdeal.Blocks.argX m c n)) := by
  obtain ⟨h0, h1⟩ := Spec.peak_range (Cert.KernelIdeal.Blocks.argX m c n) (fun k => Spec.element_of _ _ _ _ _ (hp c) _)
  exact Exponent.scale_eq _ h0 h1

theorem algebraic : @Cert.algebraic_KernelIdeal_ReferenceIdeal_pre_bf16_values Cert.KernelIdeal.Gen.facts Cert.ReferenceIdeal.Gen.facts _ := by
  intro m g m' g' hp hm
  refine ⟨_, _, _, _, _, Cert.KernelIdeal.Blocks.results m g, ?_⟩
  refine (θ_run _ _ _).mono (fun r h c => ?_) (Cert.ReferenceIdeal.Whole.results m' g')
  obtain ⟨h0, h1, h2, h3, h4, hargs⟩ := h c
  obtain ⟨a0, a1, a2, a3, a4⟩ := hm c
  have ex : Cert.ReferenceIdeal.Whole.argX m' c = Cert.KernelIdeal.Blocks.argX m c := funext fun n => funext fun k => congrFun a0 _
  have ew : Cert.ReferenceIdeal.Whole.argW m' c = Cert.KernelIdeal.Blocks.argW m c := funext fun k => funext fun j => congrFun a1 _
  have es : Cert.ReferenceIdeal.Whole.argS m' c = Cert.KernelIdeal.Blocks.argS m c := funext fun j => congrFun a2 _
  have eb : Cert.ReferenceIdeal.Whole.argB m' c = Cert.KernelIdeal.Blocks.argB m c := funext fun j => congrFun a3 _
  have ep : Cert.ReferenceIdeal.Whole.argP m' c = Cert.KernelIdeal.Blocks.argP m c := funext fun n => congrFun a4 _
  have hs := fun n => (scales m hp c n).1
  have hi := fun n => (scales m hp c n).2
  rw [ex, ew, es, eb, ep] at h0 h1
  rw [ex, ew, es, eb] at h2
  rw [ex] at h3 h4
  exact ⟨h0.trans (funext fun i => congrFun (congrFun (congrFun (q_eq _ _ _ _ hs hi).symm _) _) _),
    h1.trans (funext fun i => congrFun (congrFun (congrFun (k_eq _ _ _ _ hs hi).symm _) _) _),
    h2.trans (funext fun i => congrFun (congrFun (congrFun (v_eq _ _ _ hs hi).symm _) _) _),
    h3.trans (funext fun i => congrFun (congrFun (code_eq hi).symm _) _),
    h4.trans (funext fun i => congrFun (scale_eq hs).symm _), hargs⟩

end Cert.Equal

end
-- ==== Proof.lean ====
/- The proof of the claims of Defs.lean. -/
module

public import proofs.«01_k».proof.Defs
public import proofs.«01_k».proof.Proof.KernelRun
public import proofs.«01_k».proof.Proof.KernelIdealRun
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_bf16_values
public import Idealize.ShloMosaic.Lib.Bf16Pair

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_bf16_values.Gen.facts,
  fun m ρ _ => Cert.Kernel.Point.frame m ρ,
  fun m ρ _ => Cert.KernelIdeal.Point.frame m ρ,
  fun m ρ _ => Cert.KernelIdeal.Point.frame m ρ,
  fun m ρ _ => Cert.ReferenceIdeal.Gen.frame m ρ,
  fun m ρ _ => Cert.ReferenceIdeal.Gen.frame m ρ,
  ⟨IdealRules.bf16_pair.packStatement _, IdealRules.bf16_pair.statement _ _⟩,
  @Cert.Equal.algebraic Cert.Pre_bf16_values.Gen.facts⟩

end Cert.Proof

end
